-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hidden_map [hPre_hidden_map : Cert.Pre_hidden_map.Facts] (m : (ℓ : Loc Cert.KernelIdeal.nD Cert.KernelIdeal.τ Cert.KernelIdeal.sig) → Buf (Elt Ideal) ℓ) : Prop :=
  ∀ c : Dev Cert.KernelIdeal.nD,
    (Cert.Pre_hidden_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hidden_map [hPre_hidden_map : Cert.Pre_hidden_map.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hidden_map.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_hidden_map [hKernelIdeal : Cert.KernelIdeal.Facts] [hPre_hidden_map : Cert.Pre_hidden_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hidden_map m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_hidden_map [hReferenceIdeal : Cert.ReferenceIdeal.Facts] [hPre_hidden_map : Cert.Pre_hidden_map.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hidden_map m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_hidden_map [hKernelIdeal : Cert.KernelIdeal.Facts] [hReferenceIdeal : Cert.ReferenceIdeal.Facts] [hPre_hidden_map : Cert.Pre_hidden_map.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hidden_map m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_hidden_map : Cert.Pre_hidden_map.Facts),
    quiescent_Kernel (hKernel := hKernel)
    ∧ quiescent_KernelIdeal (hKernelIdeal := hKernelIdeal)
    ∧ quiescent_KernelIdeal_pre_hidden_map (hKernelIdeal := hKernelIdeal) (hPre_hidden_map := hPre_hidden_map)
    ∧ quiescent_ReferenceIdeal (hReferenceIdeal := hReferenceIdeal)
    ∧ quiescent_ReferenceIdeal_pre_hidden_map (hReferenceIdeal := hReferenceIdeal) (hPre_hidden_map := hPre_hidden_map)
    ∧ preserves_Kernel_KernelIdeal
    ∧ algebraic_KernelIdeal_ReferenceIdeal_pre_hidden_map (hKernelIdeal := hKernelIdeal) (hReferenceIdeal := hReferenceIdeal) (hPre_hidden_map := hPre_hidden_map)
-- ==== Pre_hidden_map.lean ====
abbrev S8192x8268 : Shape := ⟨2, ![8192, 8268]⟩
abbrev S38x16 : Shape := ⟨2, ![38, 16]⟩
abbrev S6x8 : Shape := ⟨2, ![6, 8]⟩
abbrev S2x4 : Shape := ⟨2, ![2, 4]⟩
abbrev S40x16 : Shape := ⟨2, ![40, 16]⟩
abbrev S16 : Shape := ⟨1, ![16]⟩
abbrev S44x32 : Shape := ⟨2, ![44, 32]⟩
abbrev S32 : Shape := ⟨1, ![32]⟩
abbrev S3x3x32x32 : Shape := ⟨4, ![3, 3, 32, 32]⟩
abbrev S51x64 : Shape := ⟨2, ![51, 64]⟩
abbrev S64 : Shape := ⟨1, ![64]⟩
abbrev S3232x256 : Shape := ⟨2, ![3232, 256]⟩
abbrev S256 : Shape := ⟨1, ![256]⟩
abbrev S8192x8217 : Shape := ⟨2, ![8192, 8217]⟩
abbrev S8192x9x11x83 : Shape := ⟨4, ![8192, 9, 11, 83]⟩
abbrev S8192x9x11x1 : Shape := ⟨4, ![8192, 9, 11, 1]⟩
abbrev S8192x9x11 : Shape := ⟨3, ![8192, 9, 11]⟩
abbrev S_ : Shape := ⟨0, ![]⟩

class Facts : Prop where
  slices_S8192x8268_S8192x8217_0_0 : S8192x8268.Slices ![0, 0] S8192x8217
  shapeCasts_S8192x8217_S8192x9x11x83 : S8192x8217.ShapeCasts S8192x9x11x83
  slices_S8192x9x11x83_S8192x9x11x1_0_0_0_82 : S8192x9x11x83.Slices ![0, 0, 0, 82] S8192x9x11x1
  shapeCasts_S8192x9x11x1_S8192x9x11 : S8192x9x11x1.ShapeCasts S8192x9x11
  bcast_S_S8192x9x11 : S_.BroadcastsInDim S8192x9x11 (![] : Fin 0 → Fin S8192x9x11.rank)
  reducesTo_S8192x9x11_S_d0_1_2 : S8192x9x11.ReducesTo [0, 1, 2] S_
  h_S_ : 0 < S_.numel

variable [Facts]

def fn {F : FTy → Type} [FloatOps F] (main_arg0 : FVec F S8192x8268 .f32) (main_arg1 : FVec F S38x16 .f32) (main_arg2 : FVec F S6x8 .f32) (main_arg3 : FVec F S2x4 .f32) (main_arg4 : FVec F S40x16 .f32) (main_arg5 : FVec F S16 .f32) (main_arg6 : FVec F S44x32 .f32) (main_arg7 : FVec F S32 .f32) (main_arg8 : FVec F S3x3x32x32 .f32) (main_arg9 : FVec F S32 .f32) (main_arg10 : FVec F S3x3x32x32 .f32) (main_arg11 : FVec F S32 .f32) (main_arg12 : FVec F S51x64 .f32) (main_arg13 : FVec F S64 .f32) (main_arg14 : FVec F S3232x256 .f32) (main_arg15 : FVec F S256 .f32) : IVec S_ 1 :=
  let main_v0 : FVec F S8192x8217 .f32 := (extractStridedSlice S8192x8217 ![0, 0] · slices_S8192x8268_S8192x8217_0_0) main_arg0
  let main_v1 : FVec F S8192x9x11x83 .f32 := shapeCast S8192x9x11x83 main_v0 shapeCasts_S8192x8217_S8192x9x11x83
  let main_v2 : FVec F S8192x9x11x1 .f32 := (extractStridedSlice S8192x9x11x1 ![0, 0, 0, 82] · slices_S8192x9x11x83_S8192x9x11x1_0_0_0_82) main_v1
  let main_v3 : FVec F S8192x9x11 .f32 := shapeCast S8192x9x11 main_v2 shapeCasts_S8192x9x11x1_S8192x9x11
  let main_cst : FVec F S_ .f32 := constant S_ .f32 0xBF800000#32
  let main_v4 : FVec F S8192x9x11 .f32 := broadcastInDim S8192x9x11 ![] bcast_S_S8192x9x11 main_cst
  let main_v5 : IVec S8192x9x11 1 := cmpf .ogt main_v3 main_v4
  let main_cst_0 : FVec F S_ .f32 := constant S_ .f32 0x3F800000#32
  let main_v6 : FVec F S8192x9x11 .f32 := broadcastInDim S8192x9x11 ![] bcast_S_S8192x9x11 main_cst_0
  let main_v7 : IVec S8192x9x11 1 := cmpf .olt main_v3 main_v6
  let main_v8 : IVec S8192x9x11 1 := andi main_v5 main_v7
  let main_c : IVec S_ 1 := constantI S_ 1 1#1
  let main_v9 : IVec S_ 1 := (fun x v => Host.reduce IntOp.andi x v reducesTo_S8192x9x11_S_d0_1_2 h_S_) main_v8 main_c
  main_v9
-- ==== Kernel.lean ====
abbrev S8192x8268 : Shape := ⟨2, ![8192, 8268]⟩
abbrev S38x16 : Shape := ⟨2, ![38, 16]⟩
abbrev S6x8 : Shape := ⟨2, ![6, 8]⟩
abbrev S2x4 : Shape := ⟨2, ![2, 4]⟩
abbrev S40x16 : Shape := ⟨2, ![40, 16]⟩
abbrev S16 : Shape := ⟨1, ![16]⟩
abbrev S44x32 : Shape := ⟨2, ![44, 32]⟩
abbrev S32 : Shape := ⟨1, ![32]⟩
abbrev S3x3x32x32 : Shape := ⟨4, ![3, 3, 32, 32]⟩
abbrev S51x64 : Shape := ⟨2, ![51, 64]⟩
abbrev S64 : Shape := ⟨1, ![64]⟩
abbrev S3232x256 : Shape := ⟨2, ![3232, 256]⟩
abbrev S256 : Shape := ⟨1, ![256]⟩
abbrev S8192x51 : Shape := ⟨2, ![8192, 51]⟩
abbrev S288x32 : Shape := ⟨2, ![288, 32]⟩
abbrev S3168x256 : Shape := ⟨2, ![3168, 256]⟩
abbrev S64x256 : Shape := ⟨2, ![64, 256]⟩
abbrev S1x64 : Shape := ⟨2, ![1, 64]⟩
abbrev S1x16 : Shape := ⟨2, ![1, 16]⟩
abbrev S1x32 : Shape := ⟨2, ![1, 32]⟩
abbrev S1x256 : Shape := ⟨2, ![1, 256]⟩
abbrev S8192x256 : Shape := ⟨2, ![8192, 256]⟩
abbrev S4096x51 : Shape := ⟨2, ![4096, 51]⟩
abbrev S4096x256 : Shape := ⟨2, ![4096, 256]⟩
abbrev S1x8 : Shape := ⟨2, ![1, 8]⟩
abbrev S1x4 : Shape := ⟨2, ![1, 4]⟩
abbrev S1x44 : Shape := ⟨2, ![1, 44]⟩
abbrev S99x32 : Shape := ⟨2, ![99, 32]⟩
abbrev S1x9x11x32 : Shape := ⟨4, ![1, 9, 11, 32]⟩
abbrev S1x9x1x32 : Shape := ⟨4, ![1, 9, 1, 32]⟩
abbrev S1x9x13x32 : Shape := ⟨4, ![1, 9, 13, 32]⟩
abbrev S1x1x13x32 : Shape := ⟨4, ![1, 1, 13, 32]⟩
abbrev S1x11x13x32 : Shape := ⟨4, ![1, 11, 13, 32]⟩
abbrev S32x32 : Shape := ⟨2, ![32, 32]⟩
abbrev S1x3168 : Shape := ⟨2, ![1, 3168]⟩
abbrev S4096x64 : Shape := ⟨2, ![4096, 64]⟩

abbrev nBuf : Space → Nat
  | .hbm => 28
  | .vmem => 20
  | .smem => 0
  | _ => 0

abbrev bufTy : (tb : Table) → Fin (tcTables nBuf tb) → BufTy
  | .hbm, ⟨0, _⟩ => ⟨S8192x8268, .f32⟩
  | .hbm, ⟨1, _⟩ => ⟨S38x16, .f32⟩
  | .hbm, ⟨2, _⟩ => ⟨S6x8, .f32⟩
  | .hbm, ⟨3, _⟩ => ⟨S2x4, .f32⟩
  | .hbm, ⟨4, _⟩ => ⟨S40x16, .f32⟩
  | .hbm, ⟨5, _⟩ => ⟨S16, .f32⟩
  | .hbm, ⟨6, _⟩ => ⟨S44x32, .f32⟩
  | .hbm, ⟨7, _⟩ => ⟨S32, .f32⟩
  | .hbm, ⟨8, _⟩ => ⟨S3x3x32x32, .f32⟩
  | .hbm, ⟨9, _⟩ => ⟨S32, .f32⟩
  | .hbm, ⟨10, _⟩ => ⟨S3x3x32x32, .f32⟩
  | .hbm, ⟨11, _⟩ => ⟨S32, .f32⟩
  | .hbm, ⟨12, _⟩ => ⟨S51x64, .f32⟩
  | .hbm, ⟨13, _⟩ => ⟨S64, .f32⟩
  | .hbm, ⟨14, _⟩ => ⟨S3232x256, .f32⟩
  | .hbm, ⟨15, _⟩ => ⟨S256, .f32⟩
  | .hbm, ⟨16, _⟩ => ⟨S8192x51, .f32⟩
  | .hbm, ⟨17, _⟩ => ⟨S288x32, .f32⟩
  | .hbm, ⟨18, _⟩ => ⟨S288x32, .f32⟩
  | .hbm, ⟨19, _⟩ => ⟨S3168x256, .f32⟩
  | .hbm, ⟨20, _⟩ => ⟨S64x256, .f32⟩
  | .hbm, ⟨21, _⟩ => ⟨S1x64, .f32⟩
  | .hbm, ⟨22, _⟩ => ⟨S1x16, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x256, .f32⟩
  | .hbm, ⟨27, _⟩ => ⟨S8192x256, .f32⟩
  | .local _ .vmem, ⟨0, _⟩ => ⟨S4096x51, .f32⟩
  | .local _ .vmem, ⟨1, _⟩ => ⟨S4096x51, .f32⟩
  | .local _ .vmem, ⟨2, _⟩ => ⟨S51x64, .f32⟩
  | .local _ .vmem, ⟨3, _⟩ => ⟨S1x64, .f32⟩
  | .local _ .vmem, ⟨4, _⟩ => ⟨S64x256, .f32⟩
  | .local _ .vmem, ⟨5, _⟩ => ⟨S38x16, .f32⟩
  | .local _ .vmem, ⟨6, _⟩ => ⟨S6x8, .f32⟩
  | .local _ .vmem, ⟨7, _⟩ => ⟨S2x4, .f32⟩
  | .local _ .vmem, ⟨8, _⟩ => ⟨S1x16, .f32⟩
  | .local _ .vmem, ⟨9, _⟩ => ⟨S44x32, .f32⟩
  | .local _ .vmem, ⟨10, _⟩ => ⟨S1x32, .f32⟩
  | .local _ .vmem, ⟨11, _⟩ => ⟨S288x32, .f32⟩
  | .local _ .vmem, ⟨12, _⟩ => ⟨S1x32, .f32⟩
  | .local _ .vmem, ⟨13, _⟩ => ⟨S288x32, .f32⟩
  | .local _ .vmem, ⟨14, _⟩ => ⟨S1x32, .f32⟩
  | .local _ .vmem, ⟨15, _⟩ => ⟨S3168x256, .f32⟩
  | .local _ .vmem, ⟨16, _⟩ => ⟨S1x256, .f32⟩
  | .local _ .vmem, ⟨17, _⟩ => ⟨S4096x256, .f32⟩
  | .local _ .vmem, ⟨18, _⟩ => ⟨S4096x256, .f32⟩
  | .local _ .vmem, ⟨19, _⟩ => ⟨S1x256, .f32⟩
  | _, _ => ⟨S8192x8268, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S51x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S38x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S44x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S288x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S288x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3168x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4096x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8192x8268 : Shape := ⟨2, ![8192, 8268]⟩
abbrev S38x16 : Shape := ⟨2, ![38, 16]⟩
abbrev S6x8 : Shape := ⟨2, ![6, 8]⟩
abbrev S2x4 : Shape := ⟨2, ![2, 4]⟩
abbrev S40x16 : Shape := ⟨2, ![40, 16]⟩
abbrev S16 : Shape := ⟨1, ![16]⟩
abbrev S44x32 : Shape := ⟨2, ![44, 32]⟩
abbrev S32 : Shape := ⟨1, ![32]⟩
abbrev S3x3x32x32 : Shape := ⟨4, ![3, 3, 32, 32]⟩
abbrev S51x64 : Shape := ⟨2, ![51, 64]⟩
abbrev S64 : Shape := ⟨1, ![64]⟩
abbrev S3232x256 : Shape := ⟨2, ![3232, 256]⟩
abbrev S256 : Shape := ⟨1, ![256]⟩
abbrev S8192x8217 : Shape := ⟨2, ![8192, 8217]⟩
abbrev S8192x51 : Shape := ⟨2, ![8192, 51]⟩
abbrev S8192x9x11x83 : Shape := ⟨4, ![8192, 9, 11, 83]⟩
abbrev S8192x9x11x37 : Shape := ⟨4, ![8192, 9, 11, 37]⟩
abbrev S8192x9x11x5 : Shape := ⟨4, ![8192, 9, 11, 5]⟩
abbrev S8192x9x11x40 : Shape := ⟨4, ![8192, 9, 11, 40]⟩
abbrev S8192x9x11x1 : Shape := ⟨4, ![8192, 9, 11, 1]⟩
abbrev S8192x9x11 : Shape := ⟨3, ![8192, 9, 11]⟩
abbrev S_ : Shape := ⟨0, ![]⟩
abbrev S1 : Shape := ⟨1, ![1]⟩
abbrev S1x1x1x1 : Shape := ⟨4, ![1, 1, 1, 1]⟩
abbrev S8192x9x11x16 : Shape := ⟨4, ![8192, 9, 11, 16]⟩
abbrev S8192x9x11x8 : Shape := ⟨4, ![8192, 9, 11, 8]⟩
abbrev S8192x9x11x4 : Shape := ⟨4, ![8192, 9, 11, 4]⟩
abbrev S1x1x1x16 : Shape := ⟨4, ![1, 1, 1, 16]⟩
abbrev S8192x9x11x44 : Shape := ⟨4, ![8192, 9, 11, 44]⟩
abbrev S8192x9x11x32 : Shape := ⟨4, ![8192, 9, 11, 32]⟩
abbrev S1x1x1x32 : Shape := ⟨4, ![1, 1, 1, 32]⟩
abbrev S8192x11x13x32 : Shape := ⟨4, ![8192, 11, 13, 32]⟩
abbrev S1x1x32x32 : Shape := ⟨4, ![1, 1, 32, 32]⟩
abbrev S32x32 : Shape := ⟨2, ![32, 32]⟩
abbrev S8192x3168 : Shape := ⟨2, ![8192, 3168]⟩
abbrev S8192x64 : Shape := ⟨2, ![8192, 64]⟩
abbrev S1x64 : Shape := ⟨2, ![1, 64]⟩
abbrev S8192x3232 : Shape := ⟨2, ![8192, 3232]⟩
abbrev S8192x256 : Shape := ⟨2, ![8192, 256]⟩
abbrev S1x256 : Shape := ⟨2, ![1, 256]⟩

abbrev nBuf : Space → Nat
  | .hbm => 372
  | .vmem => 0
  | .smem => 0
  | _ => 0

abbrev hbmTy0_0 (i : Nat) : BufTy := match i % 128 with
  | 0 => ⟨S8192x8268, .f32⟩
  | 1 => ⟨S38x16, .f32⟩
  | 2 => ⟨S6x8, .f32⟩
  | 3 => ⟨S2x4, .f32⟩
  | 4 => ⟨S40x16, .f32⟩
  | 5 => ⟨S16, .f32⟩
  | 6 => ⟨S44x32, .f32⟩
  | 7 => ⟨S32, .f32⟩
  | 8 => ⟨S3x3x32x32, .f32⟩
  | 9 => ⟨S32, .f32⟩
  | 10 => ⟨S3x3x32x32, .f32⟩
  | 11 => ⟨S32, .f32⟩
  | 12 => ⟨S51x64, .f32⟩
  | 13 => ⟨S64, .f32⟩
  | 14 => ⟨S3232x256, .f32⟩
  | 15 => ⟨S256, .f32⟩
  | 16 => ⟨S8192x8217, .f32⟩
  | 17 => ⟨S8192x51, .f32⟩
  | 18 => ⟨S8192x9x11x83, .f32⟩
  | 19 => ⟨S8192x9x11x37, .f32⟩
  | 20 => ⟨S8192x9x11x5, .f32⟩
  | 21 => ⟨S8192x9x11x40, .f32⟩
  | 22 => ⟨S8192x9x11x1, .f32⟩
  | 23 => ⟨S8192x9x11, .f32⟩
  | 24 => ⟨S8192x9x11, .i32⟩
  | 25 => ⟨S_, .i32⟩
  | 26 => ⟨S8192x9x11, .i32⟩
  | 27 => ⟨S8192x9x11, .i1⟩
  | 28 => ⟨S8192x9x11, .i1⟩
  | 29 => ⟨S8192x9x11x37, .i32⟩
  | 30 => ⟨S_, .f32⟩
  | 31 => ⟨S8192x9x11, .f32⟩
  | 32 => ⟨S8192x9x11x1, .f32⟩
  | 33 => ⟨S8192x9x11x37, .f32⟩
  | 34 => ⟨S8192x9x11x37, .i1⟩
  | 35 => ⟨S_, .i32⟩
  | 36 => ⟨S_, .i32⟩
  | 37 => ⟨S8192x9x11x37, .i32⟩
  | 38 => ⟨S8192x9x11x37, .i32⟩
  | 39 => ⟨S_, .i32⟩
  | 40 => ⟨S8192x9x11, .i32⟩
  | 41 => ⟨S_, .i32⟩
  | 42 => ⟨S8192x9x11, .i32⟩
  | 43 => ⟨S8192x9x11, .i32⟩
  | 44 => ⟨S_, .f32⟩
  | 45 => ⟨S8192x9x11, .f32⟩
  | 46 => ⟨S_, .f32⟩
  | 47 => ⟨S8192x9x11, .f32⟩
  | 48 => ⟨S8192x9x11, .i1⟩
  | 49 => ⟨S8192x9x11, .i1⟩
  | 50 => ⟨S_, .i32⟩
  | 51 => ⟨S8192x9x11, .i32⟩
  | 52 => ⟨S8192x9x11, .i32⟩
  | 53 => ⟨S8192x9x11x5, .i32⟩
  | 54 => ⟨S_, .f32⟩
  | 55 => ⟨S8192x9x11, .f32⟩
  | 56 => ⟨S8192x9x11x1, .f32⟩
  | 57 => ⟨S8192x9x11x5, .f32⟩
  | 58 => ⟨S8192x9x11x5, .i1⟩
  | 59 => ⟨S_, .i32⟩
  | 60 => ⟨S_, .i32⟩
  | 61 => ⟨S8192x9x11x5, .i32⟩
  | 62 => ⟨S8192x9x11x5, .i32⟩
  | 63 => ⟨S_, .i32⟩
  | 64 => ⟨S8192x9x11, .i32⟩
  | 65 => ⟨S_, .i32⟩
  | 66 => ⟨S8192x9x11, .i32⟩
  | 67 => ⟨S8192x9x11, .i32⟩
  | 68 => ⟨S_, .f32⟩
  | 69 => ⟨S8192x9x11, .f32⟩
  | 70 => ⟨S_, .f32⟩
  | 71 => ⟨S8192x9x11, .f32⟩
  | 72 => ⟨S8192x9x11, .i1⟩
  | 73 => ⟨S8192x9x11, .i1⟩
  | 74 => ⟨S_, .i32⟩
  | 75 => ⟨S8192x9x11, .i32⟩
  | 76 => ⟨S8192x9x11, .i32⟩
  | 77 => ⟨S8192x9x11x1, .i1⟩
  | 78 => ⟨S8192x9x11x1, .f32⟩
  | 79 => ⟨S8192x9x11x40, .f32⟩
  | 80 => ⟨S8192x9x11x40, .f32⟩
  | 81 => ⟨S_, .i32⟩
  | 82 => ⟨S8192x9x11, .i32⟩
  | 83 => ⟨S8192x9x11, .i1⟩
  | 84 => ⟨S_, .i32⟩
  | 85 => ⟨S8192x9x11, .i32⟩
  | 86 => ⟨S8192x9x11, .i32⟩
  | 87 => ⟨S8192x9x11, .i32⟩
  | 88 => ⟨S8192x9x11x1, .i32⟩
  | 89 => ⟨S1, .i32⟩
  | 90 => ⟨S_, .i32⟩
  | 91 => ⟨S8192x9x11x1, .i32⟩
  | 92 => ⟨S8192x9x11x1, .i1⟩
  | 93 => ⟨S1x1x1x1, .i32⟩
  | 94 => ⟨S8192x9x11x1, .i32⟩
  | 95 => ⟨S8192x9x11x1, .i1⟩
  | 96 => ⟨S8192x9x11x1, .i1⟩
  | 97 => ⟨S_, .i1⟩
  | 98 => ⟨S8192x9x11, .i1⟩
  | 99 => ⟨S8192x9x11x16, .f32⟩
  | 100 => ⟨S8192x9x11x16, .i1⟩
  | 101 => ⟨S_, .f32⟩
  | 102 => ⟨S8192x9x11x16, .f32⟩
  | 103 => ⟨S8192x9x11x16, .f32⟩
  | 104 => ⟨S_, .i32⟩
  | 105 => ⟨S8192x9x11, .i32⟩
  | 106 => ⟨S8192x9x11, .i1⟩
  | 107 => ⟨S_, .i32⟩
  | 108 => ⟨S8192x9x11, .i32⟩
  | 109 => ⟨S8192x9x11, .i32⟩
  | 110 => ⟨S8192x9x11, .i32⟩
  | 111 => ⟨S8192x9x11x1, .i32⟩
  | 112 => ⟨S1, .i32⟩
  | 113 => ⟨S_, .i32⟩
  | 114 => ⟨S8192x9x11x1, .i32⟩
  | 115 => ⟨S8192x9x11x1, .i1⟩
  | 116 => ⟨S1x1x1x1, .i32⟩
  | 117 => ⟨S8192x9x11x1, .i32⟩
  | 118 => ⟨S8192x9x11x1, .i1⟩
  | 119 => ⟨S8192x9x11x1, .i1⟩
  | 120 => ⟨S_, .i1⟩
  | 121 => ⟨S8192x9x11, .i1⟩
  | 122 => ⟨S8192x9x11x8, .f32⟩
  | 123 => ⟨S8192x9x11x8, .i1⟩
  | 124 => ⟨S_, .f32⟩
  | 125 => ⟨S8192x9x11x8, .f32⟩
  | 126 => ⟨S8192x9x11x8, .f32⟩
  | 127 => ⟨S_, .i32⟩
  | _ => ⟨S8192x8268, .f32⟩

abbrev hbmTy0_1 (i : Nat) : BufTy := match i % 128 with
  | 0 => ⟨S8192x9x11, .i32⟩
  | 1 => ⟨S8192x9x11, .i1⟩
  | 2 => ⟨S_, .i32⟩
  | 3 => ⟨S8192x9x11, .i32⟩
  | 4 => ⟨S8192x9x11, .i32⟩
  | 5 => ⟨S8192x9x11, .i32⟩
  | 6 => ⟨S8192x9x11x1, .i32⟩
  | 7 => ⟨S1, .i32⟩
  | 8 => ⟨S_, .i32⟩
  | 9 => ⟨S8192x9x11x1, .i32⟩
  | 10 => ⟨S8192x9x11x1, .i1⟩
  | 11 => ⟨S1x1x1x1, .i32⟩
  | 12 => ⟨S8192x9x11x1, .i32⟩
  | 13 => ⟨S8192x9x11x1, .i1⟩
  | 14 => ⟨S8192x9x11x1, .i1⟩
  | 15 => ⟨S_, .i1⟩
  | 16 => ⟨S8192x9x11, .i1⟩
  | 17 => ⟨S8192x9x11x4, .f32⟩
  | 18 => ⟨S8192x9x11x4, .i1⟩
  | 19 => ⟨S_, .f32⟩
  | 20 => ⟨S8192x9x11x4, .f32⟩
  | 21 => ⟨S8192x9x11x4, .f32⟩
  | 22 => ⟨S8192x9x11x16, .f32⟩
  | 23 => ⟨S_, .f32⟩
  | 24 => ⟨S8192x9x11x40, .f32⟩
  | 25 => ⟨S8192x9x11x40, .i1⟩
  | 26 => ⟨S_, .i1⟩
  | 27 => ⟨S8192x9x11, .i1⟩
  | 28 => ⟨S8192x9x11x1, .i1⟩
  | 29 => ⟨S8192x9x11x1, .f32⟩
  | 30 => ⟨S_, .f32⟩
  | 31 => ⟨S8192x9x11x1, .f32⟩
  | 32 => ⟨S8192x9x11x1, .f32⟩
  | 33 => ⟨S1x1x1x16, .f32⟩
  | 34 => ⟨S8192x9x11x16, .f32⟩
  | 35 => ⟨S8192x9x11x16, .f32⟩
  | 36 => ⟨S8192x9x11x16, .f32⟩
  | 37 => ⟨S8192x9x11x16, .f32⟩
  | 38 => ⟨S8192x9x11x44, .f32⟩
  | 39 => ⟨S8192x9x11x32, .f32⟩
  | 40 => ⟨S1x1x1x32, .f32⟩
  | 41 => ⟨S8192x9x11x32, .f32⟩
  | 42 => ⟨S8192x9x11x32, .f32⟩
  | 43 => ⟨S8192x9x11x32, .f32⟩
  | 44 => ⟨S8192x9x11x32, .f32⟩
  | 45 => ⟨S_, .f32⟩
  | 46 => ⟨S8192x9x11x32, .f32⟩
  | 47 => ⟨S8192x9x11x32, .f32⟩
  | 48 => ⟨S8192x9x11x32, .f32⟩
  | 49 => ⟨S_, .f32⟩
  | 50 => ⟨S8192x9x11x32, .f32⟩
  | 51 => ⟨S8192x9x11x32, .f32⟩
  | 52 => ⟨S8192x9x11x32, .f32⟩
  | 53 => ⟨S_, .f32⟩
  | 54 => ⟨S8192x9x11x32, .f32⟩
  | 55 => ⟨S8192x9x11x32, .f32⟩
  | 56 => ⟨S_, .f32⟩
  | 57 => ⟨S8192x9x11x32, .f32⟩
  | 58 => ⟨S8192x9x11x32, .f32⟩
  | 59 => ⟨S8192x9x11x32, .f32⟩
  | 60 => ⟨S_, .i32⟩
  | 61 => ⟨S_, .f32⟩
  | 62 => ⟨S8192x11x13x32, .f32⟩
  | 63 => ⟨S_, .f32⟩
  | 64 => ⟨S8192x9x11x32, .f32⟩
  | 65 => ⟨S8192x9x11x32, .f32⟩
  | 66 => ⟨S1x1x32x32, .f32⟩
  | 67 => ⟨S32x32, .f32⟩
  | 68 => ⟨S8192x9x11x32, .f32⟩
  | 69 => ⟨S8192x9x11x32, .f32⟩
  | 70 => ⟨S8192x9x11x32, .f32⟩
  | 71 => ⟨S1x1x32x32, .f32⟩
  | 72 => ⟨S32x32, .f32⟩
  | 73 => ⟨S8192x9x11x32, .f32⟩
  | 74 => ⟨S8192x9x11x32, .f32⟩
  | 75 => ⟨S8192x9x11x32, .f32⟩
  | 76 => ⟨S1x1x32x32, .f32⟩
  | 77 => ⟨S32x32, .f32⟩
  | 78 => ⟨S8192x9x11x32, .f32⟩
  | 79 => ⟨S8192x9x11x32, .f32⟩
  | 80 => ⟨S8192x9x11x32, .f32⟩
  | 81 => ⟨S1x1x32x32, .f32⟩
  | 82 => ⟨S32x32, .f32⟩
  | 83 => ⟨S8192x9x11x32, .f32⟩
  | 84 => ⟨S8192x9x11x32, .f32⟩
  | 85 => ⟨S8192x9x11x32, .f32⟩
  | 86 => ⟨S1x1x32x32, .f32⟩
  | 87 => ⟨S32x32, .f32⟩
  | 88 => ⟨S8192x9x11x32, .f32⟩
  | 89 => ⟨S8192x9x11x32, .f32⟩
  | 90 => ⟨S8192x9x11x32, .f32⟩
  | 91 => ⟨S1x1x32x32, .f32⟩
  | 92 => ⟨S32x32, .f32⟩
  | 93 => ⟨S8192x9x11x32, .f32⟩
  | 94 => ⟨S8192x9x11x32, .f32⟩
  | 95 => ⟨S8192x9x11x32, .f32⟩
  | 96 => ⟨S1x1x32x32, .f32⟩
  | 97 => ⟨S32x32, .f32⟩
  | 98 => ⟨S8192x9x11x32, .f32⟩
  | 99 => ⟨S8192x9x11x32, .f32⟩
  | 100 => ⟨S8192x9x11x32, .f32⟩
  | 101 => ⟨S1x1x32x32, .f32⟩
  | 102 => ⟨S32x32, .f32⟩
  | 103 => ⟨S8192x9x11x32, .f32⟩
  | 104 => ⟨S8192x9x11x32, .f32⟩
  | 105 => ⟨S8192x9x11x32, .f32⟩
  | 106 => ⟨S1x1x32x32, .f32⟩
  | 107 => ⟨S32x32, .f32⟩
  | 108 => ⟨S8192x9x11x32, .f32⟩
  | 109 => ⟨S8192x9x11x32, .f32⟩
  | 110 => ⟨S1x1x1x32, .f32⟩
  | 111 => ⟨S8192x9x11x32, .f32⟩
  | 112 => ⟨S8192x9x11x32, .f32⟩
  | 113 => ⟨S8192x9x11x32, .f32⟩
  | 114 => ⟨S8192x9x11x32, .f32⟩
  | 115 => ⟨S_, .f32⟩
  | 116 => ⟨S8192x9x11x32, .f32⟩
  | 117 => ⟨S8192x9x11x32, .f32⟩
  | 118 => ⟨S8192x9x11x32, .f32⟩
  | 119 => ⟨S_, .f32⟩
  | 120 => ⟨S8192x9x11x32, .f32⟩
  | 121 => ⟨S8192x9x11x32, .f32⟩
  | 122 => ⟨S8192x9x11x32, .f32⟩
  | 123 => ⟨S_, .f32⟩
  | 124 => ⟨S8192x9x11x32, .f32⟩
  | 125 => ⟨S8192x9x11x32, .f32⟩
  | 126 => ⟨S_, .f32⟩
  | 127 => ⟨S8192x9x11x32, .f32⟩
  | _ => ⟨S8192x8268, .f32⟩

abbrev hbmTy0_2 (i : Nat) : BufTy := match i % 128 with
  | 0 => ⟨S8192x9x11x32, .f32⟩
  | 1 => ⟨S8192x9x11x32, .f32⟩
  | 2 => ⟨S_, .i32⟩
  | 3 => ⟨S_, .f32⟩
  | 4 => ⟨S8192x11x13x32, .f32⟩
  | 5 => ⟨S_, .f32⟩
  | 6 => ⟨S8192x9x11x32, .f32⟩
  | 7 => ⟨S8192x9x11x32, .f32⟩
  | 8 => ⟨S1x1x32x32, .f32⟩
  | 9 => ⟨S32x32, .f32⟩
  | 10 => ⟨S8192x9x11x32, .f32⟩
  | 11 => ⟨S8192x9x11x32, .f32⟩
  | 12 => ⟨S8192x9x11x32, .f32⟩
  | 13 => ⟨S1x1x32x32, .f32⟩
  | 14 => ⟨S32x32, .f32⟩
  | 15 => ⟨S8192x9x11x32, .f32⟩
  | 16 => ⟨S8192x9x11x32, .f32⟩
  | 17 => ⟨S8192x9x11x32, .f32⟩
  | 18 => ⟨S1x1x32x32, .f32⟩
  | 19 => ⟨S32x32, .f32⟩
  | 20 => ⟨S8192x9x11x32, .f32⟩
  | 21 => ⟨S8192x9x11x32, .f32⟩
  | 22 => ⟨S8192x9x11x32, .f32⟩
  | 23 => ⟨S1x1x32x32, .f32⟩
  | 24 => ⟨S32x32, .f32⟩
  | 25 => ⟨S8192x9x11x32, .f32⟩
  | 26 => ⟨S8192x9x11x32, .f32⟩
  | 27 => ⟨S8192x9x11x32, .f32⟩
  | 28 => ⟨S1x1x32x32, .f32⟩
  | 29 => ⟨S32x32, .f32⟩
  | 30 => ⟨S8192x9x11x32, .f32⟩
  | 31 => ⟨S8192x9x11x32, .f32⟩
  | 32 => ⟨S8192x9x11x32, .f32⟩
  | 33 => ⟨S1x1x32x32, .f32⟩
  | 34 => ⟨S32x32, .f32⟩
  | 35 => ⟨S8192x9x11x32, .f32⟩
  | 36 => ⟨S8192x9x11x32, .f32⟩
  | 37 => ⟨S8192x9x11x32, .f32⟩
  | 38 => ⟨S1x1x32x32, .f32⟩
  | 39 => ⟨S32x32, .f32⟩
  | 40 => ⟨S8192x9x11x32, .f32⟩
  | 41 => ⟨S8192x9x11x32, .f32⟩
  | 42 => ⟨S8192x9x11x32, .f32⟩
  | 43 => ⟨S1x1x32x32, .f32⟩
  | 44 => ⟨S32x32, .f32⟩
  | 45 => ⟨S8192x9x11x32, .f32⟩
  | 46 => ⟨S8192x9x11x32, .f32⟩
  | 47 => ⟨S8192x9x11x32, .f32⟩
  | 48 => ⟨S1x1x32x32, .f32⟩
  | 49 => ⟨S32x32, .f32⟩
  | 50 => ⟨S8192x9x11x32, .f32⟩
  | 51 => ⟨S8192x9x11x32, .f32⟩
  | 52 => ⟨S1x1x1x32, .f32⟩
  | 53 => ⟨S8192x9x11x32, .f32⟩
  | 54 => ⟨S8192x9x11x32, .f32⟩
  | 55 => ⟨S8192x9x11x32, .f32⟩
  | 56 => ⟨S8192x9x11x32, .f32⟩
  | 57 => ⟨S_, .f32⟩
  | 58 => ⟨S8192x9x11x32, .f32⟩
  | 59 => ⟨S8192x9x11x32, .f32⟩
  | 60 => ⟨S8192x9x11x32, .f32⟩
  | 61 => ⟨S_, .f32⟩
  | 62 => ⟨S8192x9x11x32, .f32⟩
  | 63 => ⟨S8192x9x11x32, .f32⟩
  | 64 => ⟨S8192x9x11x32, .f32⟩
  | 65 => ⟨S_, .f32⟩
  | 66 => ⟨S8192x9x11x32, .f32⟩
  | 67 => ⟨S8192x9x11x32, .f32⟩
  | 68 => ⟨S_, .f32⟩
  | 69 => ⟨S8192x9x11x32, .f32⟩
  | 70 => ⟨S8192x9x11x32, .f32⟩
  | 71 => ⟨S8192x9x11x32, .f32⟩
  | 72 => ⟨S8192x3168, .f32⟩
  | 73 => ⟨S8192x64, .f32⟩
  | 74 => ⟨S1x64, .f32⟩
  | 75 => ⟨S8192x64, .f32⟩
  | 76 => ⟨S8192x64, .f32⟩
  | 77 => ⟨S8192x64, .f32⟩
  | 78 => ⟨S8192x64, .f32⟩
  | 79 => ⟨S_, .f32⟩
  | 80 => ⟨S8192x64, .f32⟩
  | 81 => ⟨S8192x64, .f32⟩
  | 82 => ⟨S8192x64, .f32⟩
  | 83 => ⟨S_, .f32⟩
  | 84 => ⟨S8192x64, .f32⟩
  | 85 => ⟨S8192x64, .f32⟩
  | 86 => ⟨S8192x64, .f32⟩
  | 87 => ⟨S_, .f32⟩
  | 88 => ⟨S8192x64, .f32⟩
  | 89 => ⟨S8192x64, .f32⟩
  | 90 => ⟨S_, .f32⟩
  | 91 => ⟨S8192x64, .f32⟩
  | 92 => ⟨S8192x64, .f32⟩
  | 93 => ⟨S8192x64, .f32⟩
  | 94 => ⟨S8192x3232, .f32⟩
  | 95 => ⟨S8192x256, .f32⟩
  | 96 => ⟨S1x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192x256, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S_, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | _ => ⟨S8192x8268, .f32⟩

abbrev hbmTy (i : Nat) : BufTy := match i / 128 with
  | 0 => hbmTy0_0 i
  | 1 => hbmTy0_1 i
  | 2 => hbmTy0_2 i
  | _ => ⟨S8192x8268, .f32⟩

abbrev bufTy : (tb : Table) → Fin (tcTables nBuf tb) → BufTy
  | .hbm, ⟨i, _⟩ => hbmTy i
  | _, _ => ⟨S8192x8268, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_cst_10 : Ref sig .tc := ⟨.hbm, 68, rfl⟩
abbrev main_v36 : Ref sig .tc := ⟨.hbm, 69, rfl⟩
abbrev main_cst_11 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_12 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_call4_cst : Ref sig .tc := ⟨.hbm, 101, rfl⟩
abbrev main_call4_v15 : Ref sig .tc := ⟨.hbm, 102, rfl⟩
abbrev main_v46 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_c_1 : Ref sig .tc := ⟨.hbm, 112, rfl⟩
abbrev main_call5_c_2 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_3 : Ref sig .tc := ⟨.hbm, 120, rfl⟩
abbrev main_call5_v12 : Ref sig .tc := ⟨.hbm, 121, rfl⟩
abbrev main_call5_v13 : Ref sig .tc := ⟨.hbm, 122, rfl⟩
abbrev main_call5_v14 : Ref sig .tc := ⟨.hbm, 123, rfl⟩
abbrev main_call5_cst : Ref sig .tc := ⟨.hbm, 124, rfl⟩
abbrev main_call5_v15 : Ref sig .tc := ⟨.hbm, 125, rfl⟩
abbrev main_v47 : Ref sig .tc := ⟨.hbm, 126, rfl⟩
abbrev main_call6_c : Ref sig .tc := ⟨.hbm, 127, rfl⟩
abbrev main_call6_v0 : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_v5 : Ref sig .tc := ⟨.hbm, 134, rfl⟩
abbrev main_call6_c_1 : Ref sig .tc := ⟨.hbm, 135, rfl⟩
abbrev main_call6_c_2 : Ref sig .tc := ⟨.hbm, 136, rfl⟩
abbrev main_call6_v6 : Ref sig .tc := ⟨.hbm, 137, rfl⟩
abbrev main_call6_v7 : Ref sig .tc := ⟨.hbm, 138, rfl⟩
abbrev main_call6_v8 : Ref sig .tc := ⟨.hbm, 139, rfl⟩
abbrev main_call6_v9 : Ref sig .tc := ⟨.hbm, 140, rfl⟩
abbrev main_call6_v10 : Ref sig .tc := ⟨.hbm, 141, rfl⟩
abbrev main_call6_v11 : Ref sig .tc := ⟨.hbm, 142, rfl⟩
abbrev main_call6_c_3 : Ref sig .tc := ⟨.hbm, 143, rfl⟩
abbrev main_call6_v12 : Ref sig .tc := ⟨.hbm, 144, rfl⟩
abbrev main_call6_v13 : Ref sig .tc := ⟨.hbm, 145, rfl⟩
abbrev main_call6_v14 : Ref sig .tc := ⟨.hbm, 146, rfl⟩
abbrev main_call6_cst : Ref sig .tc := ⟨.hbm, 147, rfl⟩
abbrev main_call6_v15 : Ref sig .tc := ⟨.hbm, 148, rfl⟩
abbrev main_v48 : Ref sig .tc := ⟨.hbm, 149, rfl⟩
abbrev main_v49 : Ref sig .tc := ⟨.hbm, 150, rfl⟩
abbrev main_cst_13 : Ref sig .tc := ⟨.hbm, 151, rfl⟩
abbrev main_v50 : Ref sig .tc := ⟨.hbm, 152, rfl⟩
abbrev main_v51 : Ref sig .tc := ⟨.hbm, 153, rfl⟩
abbrev main_c_14 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_cst_15 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_cst_16 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_cst_17 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_cst_18 : Ref sig .tc := ⟨.hbm, 181, rfl⟩
abbrev main_v75 : Ref sig .tc := ⟨.hbm, 182, rfl⟩
abbrev main_v76 : Ref sig .tc := ⟨.hbm, 183, rfl⟩
abbrev main_cst_19 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_c_20 : Ref sig .tc := ⟨.hbm, 188, rfl⟩
abbrev main_call7_v0 : Ref sig .tc := ⟨.hbm, 189, rfl⟩
abbrev main_v80 : Ref sig .tc := ⟨.hbm, 190, rfl⟩
abbrev main_cst_21 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_cst_22 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_cst_23 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_cst_24 : Ref sig .tc := ⟨.hbm, 251, rfl⟩
abbrev main_v138 : Ref sig .tc := ⟨.hbm, 252, rfl⟩
abbrev main_v139 : Ref sig .tc := ⟨.hbm, 253, rfl⟩
abbrev main_cst_25 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_c_26 : Ref sig .tc := ⟨.hbm, 258, rfl⟩
abbrev main_call8_v0 : Ref sig .tc := ⟨.hbm, 259, rfl⟩
abbrev main_v143 : Ref sig .tc := ⟨.hbm, 260, rfl⟩
abbrev main_cst_27 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_cst_28 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_cst_29 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_cst_30 : Ref sig .tc := ⟨.hbm, 321, rfl⟩
abbrev main_v201 : Ref sig .tc := ⟨.hbm, 322, rfl⟩
abbrev main_v202 : Ref sig .tc := ⟨.hbm, 323, rfl⟩
abbrev main_cst_31 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_cst_32 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_cst_33 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_cst_34 : Ref sig .tc := ⟨.hbm, 343, rfl⟩
abbrev main_v219 : Ref sig .tc := ⟨.hbm, 344, rfl⟩
abbrev main_v220 : Ref sig .tc := ⟨.hbm, 345, rfl⟩
abbrev main_cst_35 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_cst_36 : Ref sig .tc := ⟨.hbm, 357, rfl⟩
abbrev main_v231 : Ref sig .tc := ⟨.hbm, 358, rfl⟩
abbrev main_v232 : Ref sig .tc := ⟨.hbm, 359, rfl⟩
abbrev main_v233 : Ref sig .tc := ⟨.hbm, 360, rfl⟩
abbrev main_cst_37 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_cst_38 : Ref sig .tc := ⟨.hbm, 365, rfl⟩
abbrev main_v237 : Ref sig .tc := ⟨.hbm, 366, rfl⟩
abbrev main_v238 : Ref sig .tc := ⟨.hbm, 367, rfl⟩
abbrev main_cst_39 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩

abbrev nD : Nat := 1
abbrev τ : Topo := Topo.v7x

variable {F : FTy → Type} [FloatOps F]
-- ==== Proof.Model.lean ====
/- The mathematics both programs compute, over the extended reals and plain finite indices: the embedding concatenated
   for one cell, the dense layer, the two 3×3 convolutions over the zero-padded 9×11 grid, and the fused output layer. -/
module

public import Idealize.ShloMosaic.Lib.Pointwise

@[expose] public section

noncomputable section

namespace Cert.Model

open Idealize.ShloMosaic

/-- The tanh-approximated GELU, `x · (½ · (1 + tanh (c · (x + d · x³))))`. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- The same with the cube written from the other side. -/
theorem gelu_cube (x : EReal) : x * (Ideal.ofBits .f32 0x3F000000#32 * (1 + Ideal.tanh (Ideal.ofBits .f32 0x3F4C422A#32
    * (x + Ideal.ofBits .f32 0x3D372713#32 * (x * (x * x)))))) = gelu x := by
  unfold gelu; rw [mul_comm (x * x) x]

/-- The features of one cell: a block embedding, an item embedding, an actor embedding and a visibility embedding in a row. -/
def cell (be : Fin 16 → EReal) (ie : Fin 8 → EReal) (na : Fin 16 → EReal) (ve : Fin 4 → EReal) (k : Fin 44) : EReal :=
  if h : k.val < 16 then be ⟨k.val, h⟩
  else if h' : k.val - 16 < 8 then ie ⟨k.val - 16, h'⟩
  else if h'' : k.val - 16 - 8 < 16 then na ⟨k.val - 16 - 8, h''⟩
  else ve ⟨k.val - 16 - 8 - 16, by omega⟩

/-- A dense layer with GELU. -/
def dense {K N : Nat} (x : Fin K → EReal) (w : Fin K → Fin N → EReal) (b : Fin N → EReal) (o : Fin N) : EReal :=
  gelu (∑ k, x k * w k o + b o)

/-- A map over the 9×11 grid inside a border of zeros one cell wide. -/
def padded (g : Fin 9 → Fin 11 → Fin 32 → EReal) (y : Fin 11) (x : Fin 13) (c : Fin 32) : EReal :=
  if h : (1 ≤ y.val ∧ y.val ≤ 9) ∧ (1 ≤ x.val ∧ x.val ≤ 11) then g ⟨y.val - 1, by omega⟩ ⟨x.val - 1, by omega⟩ c else 0

/-- A map put together from a row of zeros, the rows with a zero on either side, and a row of zeros, is the padded map. -/
theorem padded_of (g : Fin 9 → Fin 11 → Fin 32 → EReal) (y : Fin 11) (x : Fin 13) (c : Fin 32)
    (t : ¬ y.val < 1 → y.val - 1 < 9 → ¬ x.val < 1 → x.val - 1 < 11 → EReal)
    (ht : ∀ h₁ h₂ h₃ h₄, t h₁ h₂ h₃ h₄ = g ⟨y.val - 1, h₂⟩ ⟨x.val - 1, h₄⟩ c) :
    (if h₁ : y.val < 1 then 0 else if h₂ : y.val - 1 < 9 then if h₃ : x.val < 1 then 0
      else if h₄ : x.val - 1 < 11 then t h₁ h₂ h₃ h₄ else 0 else 0) = padded g y x c := by
  unfold padded
  split_ifs with h₁ h₂ h₃ h₄ h₅ <;> first | rfl | exact ht _ _ _ _ | (exfalso; omega)

/-- So is a map cut off by any condition that says the place is inside the border. -/
theorem padded_of_iff (g : Fin 9 → Fin 11 → Fin 32 → EReal) (y : Fin 11) (x : Fin 13) (c : Fin 32) (P : Prop) [Decidable P]
    (t : P → EReal) (z : EReal) (hz : z = 0) (hP : P ↔ (1 ≤ y.val ∧ y.val ≤ 9) ∧ (1 ≤ x.val ∧ x.val ≤ 11))
    (ht : ∀ (h : P) (h₁ : y.val - 1 < 9) (h₂ : x.val - 1 < 11), t h = g ⟨y.val - 1, h₁⟩ ⟨x.val - 1, h₂⟩ c) :
    (if h : P then t h else z) = padded g y x c := by
  unfold padded
  by_cases h : P
  · rw [dif_pos h, dif_pos (hP.1 h)]
    exact ht h _ _
  · rw [dif_neg h, dif_neg (fun h' => h (hP.2 h')), hz]

/-- One of the nine products of a 3×3 convolution: the padded map shifted by `(ky, kx)` times that tap's matrix. -/
def tap (P : Fin 11 → Fin 13 → Fin 32 → EReal) (w : Fin 3 → Fin 3 → Fin 32 → Fin 32 → EReal) (ky kx : Fin 3)
    (y : Fin 9) (x : Fin 11) (o : Fin 32) : EReal :=
  ∑ k : Fin 32, P ⟨ky.val + y.val, by omega⟩ ⟨kx.val + x.val, by omega⟩ k * w ky kx k o

/-- A 3×3 convolution of a padded map, with its bias: the nine products added in order. -/
def conv (P : Fin 11 → Fin 13 → Fin 32 → EReal) (w : Fin 3 → Fin 3 → Fin 32 → Fin 32 → EReal) (b : Fin 32 → EReal)
    (y : Fin 9) (x : Fin 11) (o : Fin 32) : EReal :=
  tap P w 0 0 y x o + tap P w 0 1 y x o + tap P w 0 2 y x o + tap P w 1 0 y x o + tap P w 1 1 y x o + tap P w 1 2 y x o
    + tap P w 2 0 y x o + tap P w 2 1 y x o + tap P w 2 2 y x o + b o

/-- The map branch: the same cell everywhere, then two convolutions, each with GELU. -/
def spatial (d : Fin 32 → EReal) (w₁ : Fin 3 → Fin 3 → Fin 32 → Fin 32 → EReal) (b₁ : Fin 32 → EReal)
    (w₂ : Fin 3 → Fin 3 → Fin 32 → Fin 32 → EReal) (b₂ : Fin 32 → EReal) (y : Fin 9) (x : Fin 11) (o : Fin 32) : EReal :=
  gelu (conv (padded fun y x c => gelu (conv (padded fun _ _ c => d c) w₁ b₁ y x c)) w₂ b₂ y x o)

/-- One entry of the network's result: the GELU of the fused layer over the flattened map and the extra features. -/
def result (ex : Fin 51 → EReal) (be : Fin 16 → EReal) (ie : Fin 8 → EReal) (ve : Fin 4 → EReal) (na : Fin 16 → EReal)
    (w : Fin 44 → Fin 32 → EReal) (b : Fin 32 → EReal) (w₁ : Fin 3 → Fin 3 → Fin 32 → Fin 32 → EReal) (b₁ : Fin 32 → EReal)
    (w₂ : Fin 3 → Fin 3 → Fin 32 → Fin 32 → EReal) (b₂ : Fin 32 → EReal) (we : Fin 51 → Fin 64 → EReal) (eb : Fin 64 → EReal)
    (fw : Fin 3232 → Fin 256 → EReal) (fb : Fin 256 → EReal) (n : Fin 256) : EReal :=
  gelu ((∑ j : Fin 64, dense ex we eb j * fw ⟨3168 + j.val, by omega⟩ n)
    + ((∑ k : Fin 3168, spatial (dense (cell be ie na ve) w b) w₁ b₁ w₂ b₂ ⟨k.val / 32 / 11, by omega⟩
        ⟨k.val / 32 % 11, by omega⟩ ⟨k.val % 32, by omega⟩ * fw ⟨k.val, by omega⟩ n) + fb n))

end Cert.Model

end
-- ==== Proof.KernelPay.lean ====
/- What each pure value of the kernel is, element by element: the padded dense layer, the convolutions' products, the
   flattened map, the base row and the output block. -/
module

public import proofs.«01_k».proof.Proof.Gen.KernelIdeal.Skeleton
public import proofs.«01_k».proof.Proof.Model
public import Idealize.ShloMosaic.Lib.Pipeline.Value

@[expose] public section

noncomputable section

namespace Cert.KernelPay

open Idealize.ShloMosaic Cert.KernelIdeal Cert.KernelIdeal.Gen Cert.Model

/-- A kernel's padded map, as a function of the grid's coordinates. -/
abbrev grid (v : Vec Ideal S1x11x13x32 .f32) (y : Fin 11) (x : Fin 13) (c : Fin 32) : EReal := v (ix4 0 y x c)

/-- The first padded map holds the dense layer of the one cell in every inner place. -/
theorem pad1_apply (be : Vec Ideal S1x16 .f32) (ie : Vec Ideal S1x8 .f32) (na : Vec Ideal S1x16 .f32)
    (ve : Vec Ideal S1x4 .f32) (w : Vec Ideal S44x32 .f32) (b : Vec Ideal S1x32 .f32) (y : Fin 11) (x : Fin 13) (c : Fin 32) :
    k0_pay2 be ie na ve w b (ix4 0 y x c)
      = padded (fun _ _ c => dense (cell (fun k => be (ix2 0 k)) (fun k => ie (ix2 0 k)) (fun k => na (ix2 0 k))
          (fun k => ve (ix2 0 k))) (fun k o => w (ix2 k o)) (fun o => b (ix2 0 o)) c) y x c := by
  pointwise [k0_pay2]
  refine padded_of _ y x c _ fun h₁ h₂ h₃ h₄ => ?_
  rw [gelu_cube]
  rfl

/-- The padded map after the first convolution, from the sums of its first eight products. -/
theorem pad2_apply (v : Vec Ideal S1x11x13x32 .f32) (s t : Vec Ideal S99x32 .f32) (w : Vec Ideal S32x32 .f32)
    (b : Vec Ideal S1x32 .f32) (y : Fin 11) (x : Fin 13) (c : Fin 32) :
    k0_pay7 v s t w b (ix4 0 y x c)
      = padded (fun y x c => gelu (s (ix2 ⟨y.val * 11 + x.val, by omega⟩ c) + t (ix2 ⟨y.val * 11 + x.val, by omega⟩ c)
          + (∑ k : Fin 32, v (ix4 0 ⟨2 + y.val, by omega⟩ ⟨2 + x.val, by omega⟩ k) * w (ix2 k c)) + b (ix2 0 c))) y x c := by
  pointwise [k0_pay7]
  refine padded_of _ y x c _ fun h₁ h₂ h₃ h₄ => ?_
  have hd : ((y.val - 1) * 11 + (x.val - 1)) / 11 = y.val - 1 := by omega
  have hm : ((y.val - 1) * 11 + (x.val - 1)) % 11 = x.val - 1 := by omega
  rw [gelu_cube]
  simp only [hd, hm]

/-- The matrices of nine loads, as a convolution's weights. -/
abbrev taps (W : Fin 3 → Fin 3 → Vec Ideal S32x32 .f32) (ky kx : Fin 3) (i o : Fin 32) : EReal := W ky kx (ix2 i o)

/-- The padded map after the first convolution, from the first padded map. -/
theorem conv1_apply (be : Vec Ideal S1x16 .f32) (ie : Vec Ideal S1x8 .f32) (na : Vec Ideal S1x16 .f32)
    (ve : Vec Ideal S1x4 .f32) (w : Vec Ideal S44x32 .f32) (b : Vec Ideal S1x32 .f32)
    (W : Fin 3 → Fin 3 → Vec Ideal S32x32 .f32) (b₁ : Vec Ideal S1x32 .f32) (y : Fin 11) (x : Fin 13) (c : Fin 32) :
    k0_pay7 (k0_pay2 be ie na ve w b) (k0_pay5 (k0_pay2 be ie na ve w b) (k0_pay3 be ie na ve w b (W 0 0))
      (k0_pay4 be ie na ve w b) (W 0 1) (W 0 2) (W 1 0) (W 1 1) (W 1 2) (W 2 0)) (k0_pay6 (k0_pay2 be ie na ve w b) (W 2 1))
      (W 2 2) b₁ (ix4 0 y x c)
      = padded (fun y x c => gelu (conv (grid (k0_pay2 be ie na ve w b)) (taps W) (fun o => b₁ (ix2 0 o)) y x c)) y x c := by
  rw [pad2_apply]
  refine congrFun (congrFun (congrFun (congrArg padded ?_) y) x) c
  funext y x c
  have hd : (y.val * 11 + x.val) / 11 = y.val := by omega
  have hm : (y.val * 11 + x.val) % 11 = x.val := by omega
  refine congrArg gelu ?_
  pointwise [k0_pay3, k0_pay4, k0_pay5, k0_pay6]
  simp only [hd, hm, conv, tap, Fin.val_zero, Fin.val_one, Fin.val_two, Nat.zero_add]

/-- The second convolution without its bias, from its padded operand `P`. -/
theorem conv2_apply (v : Vec Ideal S1x11x13x32 .f32) (s t : Vec Ideal S99x32 .f32) (w : Vec Ideal S32x32 .f32)
    (b : Vec Ideal S1x32 .f32) (W : Fin 3 → Fin 3 → Vec Ideal S32x32 .f32) (b₂ : Fin 32 → EReal) (p : Fin 99) (c : Fin 32) :
    k0_pay10 (k0_pay7 v s t w b) (k0_pay8 v s t w b (W 0 0) (W 0 1)) (k0_pay9 v s t w b) (W 0 2) (W 1 0) (W 1 1) (W 1 2)
        (W 2 0) (W 2 1) (W 2 2) (ix2 p c) + b₂ c
      = conv (grid (k0_pay7 v s t w b)) (taps W) b₂ ⟨p.val / 11, by omega⟩ ⟨p.val % 11, by omega⟩ c := by
  pointwise [k0_pay10, k0_pay8, k0_pay9]
  simp only [conv, tap, Fin.val_zero, Fin.val_one, Fin.val_two, Nat.zero_add]

/-- The second convolution's bias and GELU. -/
theorem final_apply (a : Vec Ideal S99x32 .f32) (b : Vec Ideal S1x32 .f32) (p : Fin 99) (c : Fin 32) :
    k0_pay11 a b (ix2 p c) = gelu (a (ix2 p c) + b (ix2 0 c)) := by
  pointwise [k0_pay11]
  exact gelu_cube _
/-- The base row: the flattened map times the upper rows of the fused weights, plus the bias. -/
theorem base_apply (a : Vec Ideal S1x3168 .f32) (w : Vec Ideal S3168x256 .f32) (b : Vec Ideal S1x256 .f32) (n : Fin 256) :
    k0_pay110 a w b (ix2 0 n) = (∑ k, a (ix2 0 k) * w (ix2 k n)) + b (ix2 0 n) := by
  pointwise [k0_pay110]
/-- A block of rows before the last GELU: the extra features' dense layer times the lower rows, plus the base row. -/
theorem out_apply (x : Vec Ideal S4096x51 .f32) (w : Vec Ideal S51x64 .f32) (b : Vec Ideal S1x64 .f32)
    (u : Vec Ideal S64x256 .f32) (r : Vec Ideal S1x256 .f32) (i : Fin 4096) (n : Fin 256) :
    k0_pay111 x w b u r (ix2 i n)
      = (∑ j, dense (fun k => x (ix2 i k)) (fun k o => w (ix2 k o)) (fun o => b (ix2 0 o)) j * u (ix2 j n)) + r (ix2 0 n) := by
  pointwise [k0_pay111]
  simp only [gelu_cube]
  rfl
/-- The stored block is the GELU of that. -/
theorem gelu_apply (x : Vec Ideal S4096x51 .f32) (w : Vec Ideal S51x64 .f32) (b : Vec Ideal S1x64 .f32)
    (u : Vec Ideal S64x256 .f32) (r : Vec Ideal S1x256 .f32) (i : Fin 4096) (n : Fin 256) :
    k0_pay1 (k0_pay111 x w b u r) (k0_pay112 x w b u r) (ix2 i n) = gelu (k0_pay111 x w b u r (ix2 i n)) := by
  pointwise [k0_pay1, k0_pay112]
  exact gelu_cube _

/-- The kernel's flattening of a map: its 99 rows cut out and laid end to end. -/
def flat (a : Vec Ideal S99x32 .f32) (b : Vec Ideal S1x32 .f32) : Vec Ideal S1x3168 .f32 :=
  k0_pay109 (k0_pay11 a b) (k0_pay12 a b) (k0_pay13 a b) (k0_pay14 a b) (k0_pay15 a b) (k0_pay16 a b) (k0_pay17 a b) (k0_pay18 a b) (k0_pay19 a b) (k0_pay20 a b) (k0_pay21 a b) (k0_pay22 a b) (k0_pay23 a b) (k0_pay24 a b) (k0_pay25 a b) (k0_pay26 a b) (k0_pay27 a b) (k0_pay28 a b) (k0_pay29 a b) (k0_pay30 a b) (k0_pay31 a b) (k0_pay32 a b) (k0_pay33 a b) (k0_pay34 a b) (k0_pay35 a b) (k0_pay36 a b) (k0_pay37 a b) (k0_pay38 a b) (k0_pay39 a b) (k0_pay40 a b) (k0_pay41 a b) (k0_pay42 a b) (k0_pay43 a b) (k0_pay44 a b) (k0_pay45 a b) (k0_pay46 a b) (k0_pay47 a b) (k0_pay48 a b) (k0_pay49 (k0_pay11 a b)) (k0_pay50 (k0_pay11 a b)) (k0_pay51 (k0_pay11 a b)) (k0_pay52 (k0_pay11 a b)) (k0_pay53 (k0_pay11 a b)) (k0_pay54 (k0_pay11 a b)) (k0_pay55 (k0_pay11 a b)) (k0_pay56 (k0_pay11 a b)) (k0_pay57 (k0_pay11 a b)) (k0_pay58 (k0_pay11 a b)) (k0_pay59 (k0_pay11 a b)) (k0_pay60 (k0_pay11 a b)) (k0_pay61 (k0_pay11 a b)) (k0_pay62 (k0_pay11 a b)) (k0_pay63 (k0_pay11 a b)) (k0_pay64 (k0_pay11 a b)) (k0_pay65 (k0_pay11 a b)) (k0_pay66 (k0_pay11 a b)) (k0_pay67 (k0_pay11 a b)) (k0_pay68 (k0_pay11 a b)) (k0_pay69 (k0_pay11 a b)) (k0_pay70 (k0_pay11 a b)) (k0_pay71 (k0_pay11 a b)) (k0_pay72 (k0_pay11 a b)) (k0_pay73 (k0_pay11 a b)) (k0_pay74 (k0_pay11 a b)) (k0_pay75 (k0_pay11 a b)) (k0_pay76 (k0_pay11 a b)) (k0_pay77 (k0_pay11 a b)) (k0_pay78 (k0_pay11 a b)) (k0_pay79 (k0_pay11 a b)) (k0_pay80 (k0_pay11 a b)) (k0_pay81 (k0_pay11 a b)) (k0_pay82 (k0_pay11 a b)) (k0_pay83 (k0_pay11 a b)) (k0_pay84 (k0_pay11 a b)) (k0_pay85 (k0_pay11 a b)) (k0_pay86 (k0_pay11 a b)) (k0_pay87 (k0_pay11 a b)) (k0_pay88 (k0_pay11 a b)) (k0_pay89 (k0_pay11 a b)) (k0_pay90 (k0_pay11 a b)) (k0_pay91 (k0_pay11 a b)) (k0_pay92 (k0_pay11 a b)) (k0_pay93 (k0_pay11 a b)) (k0_pay94 (k0_pay11 a b)) (k0_pay95 (k0_pay11 a b)) (k0_pay96 (k0_pay11 a b)) (k0_pay97 (k0_pay11 a b)) (k0_pay98 (k0_pay11 a b)) (k0_pay99 (k0_pay11 a b)) (k0_pay100 (k0_pay11 a b)) (k0_pay101 (k0_pay11 a b)) (k0_pay102 (k0_pay11 a b)) (k0_pay103 (k0_pay11 a b)) (k0_pay104 (k0_pay11 a b)) (k0_pay105 (k0_pay11 a b)) (k0_pay106 (k0_pay11 a b)) (k0_pay107 (k0_pay11 a b)) (k0_pay108 (k0_pay11 a b))

/-- The flattened map: entry `k` is channel `k % 32` of place `k / 32`. -/
theorem flat_apply (a : Vec Ideal S99x32 .f32) (b : Vec Ideal S1x32 .f32) (k : Fin 3168) :
    flat a b (ix2 0 k)
      = k0_pay11 a b (ix2 ⟨k.val / 32, by omega⟩ ⟨k.val % 32, by omega⟩) := by
  unfold flat k0_pay109
  have hs : ∀ n : Fin 99, S99x32.Slices ![n.val, 0] S1x32 := fun n =>
    ⟨rfl, fun i => by match i with
      | ⟨0, _⟩ => show n.val + 1 ≤ 99; omega
      | ⟨1, _⟩ => show 0 + 32 ≤ 32; omega⟩
  refine (concatenate_ofFn_apply (t := S1x3168) (s₁ := S1x32) 1
    (fun n : Fin 99 => extractStridedSlice S1x32 ![n.val, 0] (k0_pay11 a b) (hs n)) _ rfl 32 rfl (ix2 0 k)
    ⟨k.val / 32, by omega⟩ rfl (ix2 0 ⟨k.val % 32, by omega⟩) rfl ?_).trans ?_
  · intro i hi
    match i with
    | ⟨0, _⟩ => rfl
    | ⟨1, _⟩ => exact absurd rfl hi
  · pointwise

/-- The kernel's second convolution, without its bias, from the embedding rows and the weights. -/
def conv2 (be : Vec Ideal S1x16 .f32) (ie : Vec Ideal S1x8 .f32) (na : Vec Ideal S1x16 .f32)
    (ve : Vec Ideal S1x4 .f32) (w : Vec Ideal S44x32 .f32) (b : Vec Ideal S1x32 .f32)
    (W : Fin 3 → Fin 3 → Vec Ideal S32x32 .f32) (b₁ : Vec Ideal S1x32 .f32) (U : Fin 3 → Fin 3 → Vec Ideal S32x32 .f32) :
    Vec Ideal S99x32 .f32 :=
  k0_pay10
    (k0_pay7 (k0_pay2 be ie na ve w b) (k0_pay5 (k0_pay2 be ie na ve w b) (k0_pay3 be ie na ve w b (W 0 0)) (k0_pay4 be ie na ve w b)
      (W 0 1) (W 0 2) (W 1 0) (W 1 1) (W 1 2) (W 2 0)) (k0_pay6 (k0_pay2 be ie na ve w b) (W 2 1)) (W 2 2) b₁)
    (k0_pay8 (k0_pay2 be ie na ve w b) (k0_pay5 (k0_pay2 be ie na ve w b) (k0_pay3 be ie na ve w b (W 0 0)) (k0_pay4 be ie na ve w b)
      (W 0 1) (W 0 2) (W 1 0) (W 1 1) (W 1 2) (W 2 0)) (k0_pay6 (k0_pay2 be ie na ve w b) (W 2 1)) (W 2 2) b₁ (U 0 0) (U 0 1))
    (k0_pay9 (k0_pay2 be ie na ve w b) (k0_pay5 (k0_pay2 be ie na ve w b) (k0_pay3 be ie na ve w b (W 0 0)) (k0_pay4 be ie na ve w b)
      (W 0 1) (W 0 2) (W 1 0) (W 1 1) (W 1 2) (W 2 0)) (k0_pay6 (k0_pay2 be ie na ve w b) (W 2 1)) (W 2 2) b₁)
    (U 0 2) (U 1 0) (U 1 1) (U 1 2) (U 2 0) (U 2 1) (U 2 2)

/-- The kernel's map branch is the model's. -/
theorem map_apply (be : Vec Ideal S1x16 .f32) (ie : Vec Ideal S1x8 .f32) (na : Vec Ideal S1x16 .f32)
    (ve : Vec Ideal S1x4 .f32) (w : Vec Ideal S44x32 .f32) (b : Vec Ideal S1x32 .f32)
    (W : Fin 3 → Fin 3 → Vec Ideal S32x32 .f32) (b₁ : Vec Ideal S1x32 .f32) (U : Fin 3 → Fin 3 → Vec Ideal S32x32 .f32)
    (b₂ : Vec Ideal S1x32 .f32) (p : Fin 99) (c : Fin 32) :
    k0_pay11 (conv2 be ie na ve w b W b₁ U) b₂ (ix2 p c)
      = spatial (dense (cell (fun k => be (ix2 0 k)) (fun k => ie (ix2 0 k)) (fun k => na (ix2 0 k)) (fun k => ve (ix2 0 k)))
          (fun k o => w (ix2 k o)) (fun o => b (ix2 0 o))) (taps W) (fun o => b₁ (ix2 0 o)) (taps U) (fun o => b₂ (ix2 0 o))
          ⟨p.val / 11, by omega⟩ ⟨p.val % 11, by omega⟩ c := by
  rw [final_apply]
  unfold conv2 spatial
  rw [conv2_apply _ _ _ _ _ U (fun o => b₂ (ix2 0 o)) p c]
  congr 2
  funext y x c
  unfold grid
  rw [conv1_apply]
  congr 1
  funext y x c
  congr 2
  funext y x c
  unfold grid
  rw [pad1_apply]

/-- The kernel's base row: what every row of the result takes from the map branch. -/
def baseRow (be : Vec Ideal S1x16 .f32) (ie : Vec Ideal S1x8 .f32) (na : Vec Ideal S1x16 .f32)
    (ve : Vec Ideal S1x4 .f32) (w : Vec Ideal S44x32 .f32) (b : Vec Ideal S1x32 .f32)
    (W : Fin 3 → Fin 3 → Vec Ideal S32x32 .f32) (b₁ : Vec Ideal S1x32 .f32) (U : Fin 3 → Fin 3 → Vec Ideal S32x32 .f32)
    (b₂ : Vec Ideal S1x32 .f32) (fw : Vec Ideal S3168x256 .f32) (fb : Vec Ideal S1x256 .f32) : Vec Ideal S1x256 .f32 :=
  k0_pay110 (flat (conv2 be ie na ve w b W b₁ U) b₂) fw fb

/-- The base row at column `n`: the flattened map branch times column `n` of the upper fused weights, plus the bias. -/
theorem baseRow_apply (be : Vec Ideal S1x16 .f32) (ie : Vec Ideal S1x8 .f32) (na : Vec Ideal S1x16 .f32)
    (ve : Vec Ideal S1x4 .f32) (w : Vec Ideal S44x32 .f32) (b : Vec Ideal S1x32 .f32)
    (W : Fin 3 → Fin 3 → Vec Ideal S32x32 .f32) (b₁ : Vec Ideal S1x32 .f32) (U : Fin 3 → Fin 3 → Vec Ideal S32x32 .f32)
    (b₂ : Vec Ideal S1x32 .f32) (fw : Vec Ideal S3168x256 .f32) (fb : Vec Ideal S1x256 .f32) (n : Fin 256) :
    baseRow be ie na ve w b W b₁ U b₂ fw fb (ix2 0 n)
      = (∑ k : Fin 3168, spatial (dense (cell (fun k => be (ix2 0 k)) (fun k => ie (ix2 0 k)) (fun k => na (ix2 0 k))
          (fun k => ve (ix2 0 k))) (fun k o => w (ix2 k o)) (fun o => b (ix2 0 o))) (taps W) (fun o => b₁ (ix2 0 o))
          (taps U) (fun o => b₂ (ix2 0 o)) ⟨k.val / 32 / 11, by omega⟩ ⟨k.val / 32 % 11, by omega⟩ ⟨k.val % 32, by omega⟩
          * fw (ix2 k n)) + fb (ix2 0 n) := by
  unfold baseRow
  rw [base_apply]
  simp only [flat_apply, map_apply]

end Cert.KernelPay

end
-- ==== Proof.KernelCase.lean ====
/- What the kernel's body leaves in the output block and in the carried row, at the first point and at the later one. -/
module

public import proofs.«01_k».proof.Proof.KernelPay
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Quiescent

@[expose] public section

noncomputable section

namespace Cert.KernelCase

open Idealize.ShloMosaic Idealize.ShloMosaic.TcCoe Idealize.SL.Sem
open Cert.KernelIdeal Cert.KernelIdeal.Gen Cert.KernelPay Cert.Model

/-- The first corner of a block, as the programs write it. -/
theorem corner : (![0, 0] : Fin 2 → Nat) = fun _ => 0 := funext fun a => by fin_cases a <;> rfl

/-- Rows `32 * (3 * ky + kx)` onwards of a stack of nine matrices. -/
def tapsOf (x : Vec Ideal S288x32 .f32) (ky kx : Fin 3) : Vec Ideal S32x32 .f32 :=
  fun j => x (ix2 ⟨32 * (3 * ky.val + kx.val) + (j 0).val, by have : (j 0).val < 32 := (j 0).isLt; have := ky.isLt; have := kx.isLt; omega⟩ (j 1))

/-- A load of 32 rows at a multiple of 32 is one matrix of the stack. -/
theorem ld_tap (x : Vec Ideal S288x32 .f32) (ky kx : Fin 3)
    (inb : ∀ a, (![32 * (3 * ky.val + kx.val), 0] : Fin 2 → Nat) a + S32x32.size a ≤ S288x32.size a) :
    View.ld x (Rect.unit (s := S288x32) ![32 * (3 * ky.val + kx.val), 0] S32x32.size inb) = tapsOf x ky kx := by
  funext j
  rw [eq_ix2 j]
  unfold tapsOf
  pointwise

/-- Rows 0 to 31 of the flattened kernel: the matrix of the tap in row 0 and column 0. -/
theorem ld_tap0 (x : Vec Ideal S288x32 .f32) :
    View.ld x (Rect.unit (s := S288x32) ![0, 0] ![32, 32] inb_S288x32_S32x32_0_0) = tapsOf x 0 0 :=
  ld_tap x 0 0 _

/-- Rows 32 to 63 of the flattened kernel: the matrix of the tap in row 0 and column 1. -/
theorem ld_tap32 (x : Vec Ideal S288x32 .f32) :
    View.ld x (Rect.unit (s := S288x32) ![32, 0] ![32, 32] inb_S288x32_S32x32_32_0) = tapsOf x 0 1 :=
  ld_tap x 0 1 _

/-- Rows 64 to 95 of the flattened kernel: the matrix of the tap in row 0 and column 2. -/
theorem ld_tap64 (x : Vec Ideal S288x32 .f32) :
    View.ld x (Rect.unit (s := S288x32) ![64, 0] ![32, 32] inb_S288x32_S32x32_64_0) = tapsOf x 0 2 :=
  ld_tap x 0 2 _

/-- Rows 96 to 127 of the flattened kernel: the matrix of the tap in row 1 and column 0. -/
theorem ld_tap96 (x : Vec Ideal S288x32 .f32) :
    View.ld x (Rect.unit (s := S288x32) ![96, 0] ![32, 32] inb_S288x32_S32x32_96_0) = tapsOf x 1 0 :=
  ld_tap x 1 0 _

/-- Rows 128 to 159 of the flattened kernel: the matrix of the tap in row 1 and column 1. -/
theorem ld_tap128 (x : Vec Ideal S288x32 .f32) :
    View.ld x (Rect.unit (s := S288x32) ![128, 0] ![32, 32] inb_S288x32_S32x32_128_0) = tapsOf x 1 1 :=
  ld_tap x 1 1 _

/-- Rows 160 to 191 of the flattened kernel: the matrix of the tap in row 1 and column 2. -/
theorem ld_tap160 (x : Vec Ideal S288x32 .f32) :
    View.ld x (Rect.unit (s := S288x32) ![160, 0] ![32, 32] inb_S288x32_S32x32_160_0) = tapsOf x 1 2 :=
  ld_tap x 1 2 _

/-- Rows 192 to 223 of the flattened kernel: the matrix of the tap in row 2 and column 0. -/
theorem ld_tap192 (x : Vec Ideal S288x32 .f32) :
    View.ld x (Rect.unit (s := S288x32) ![192, 0] ![32, 32] inb_S288x32_S32x32_192_0) = tapsOf x 2 0 :=
  ld_tap x 2 0 _

/-- Rows 224 to 255 of the flattened kernel: the matrix of the tap in row 2 and column 1. -/
theorem ld_tap224 (x : Vec Ideal S288x32 .f32) :
    View.ld x (Rect.unit (s := S288x32) ![224, 0] ![32, 32] inb_S288x32_S32x32_224_0) = tapsOf x 2 1 :=
  ld_tap x 2 1 _

/-- Rows 256 to 287 of the flattened kernel: the matrix of the tap in row 2 and column 2. -/
theorem ld_tap256 (x : Vec Ideal S288x32 .f32) :
    View.ld x (Rect.unit (s := S288x32) ![256, 0] ![32, 32] inb_S288x32_S32x32_256_0) = tapsOf x 2 2 :=
  ld_tap x 2 2 _

/-- The row the first point computes and carries. -/
def base (x4 : Vec Ideal S38x16 .f32) (x5 : Vec Ideal S6x8 .f32) (x6 : Vec Ideal S2x4 .f32) (x7 : Vec Ideal S1x16 .f32)
    (x8 : Vec Ideal S44x32 .f32) (x9 : Vec Ideal S1x32 .f32) (x10 : Vec Ideal S288x32 .f32) (x11 : Vec Ideal S1x32 .f32)
    (x12 : Vec Ideal S288x32 .f32) (x13 : Vec Ideal S1x32 .f32) (x14 : Vec Ideal S3168x256 .f32) (x15 : Vec Ideal S1x256 .f32) :
    Vec Ideal S1x256 .f32 :=
  baseRow (View.ld x4 (Rect.unit (s := S38x16) ![0, 0] S1x16.size inb_S38x16_S1x16_0_0))
    (View.ld x5 (Rect.unit (s := S6x8) ![0, 0] S1x8.size inb_S6x8_S1x8_0_0)) x7
    (View.ld x6 (Rect.unit (s := S2x4) ![0, 0] S1x4.size inb_S2x4_S1x4_0_0)) x8 x9 (tapsOf x10) x11 (tapsOf x12) x13 x14 x15

/-- The later point's output: the block of rows computed with the carried row `r`. -/
theorem out_later (c : Dev nD) (i : grid0.Coords)
    (arg1 : Memref sig .tc .vmem S4096x51 .f32) (harg1 : arg1.IsWhole)
    (arg2 : Memref sig .tc .vmem S51x64 .f32) (harg2 : arg2.IsWhole)
    (arg3 : Memref sig .tc .vmem S1x64 .f32) (harg3 : arg3.IsWhole)
    (arg4 : Memref sig .tc .vmem S64x256 .f32) (harg4 : arg4.IsWhole)
    (arg5 : Memref sig .tc .vmem S38x16 .f32) (harg5 : arg5.IsWhole)
    (arg6 : Memref sig .tc .vmem S6x8 .f32) (harg6 : arg6.IsWhole)
    (arg7 : Memref sig .tc .vmem S2x4 .f32) (harg7 : arg7.IsWhole)
    (arg8 : Memref sig .tc .vmem S1x16 .f32) (harg8 : arg8.IsWhole)
    (arg9 : Memref sig .tc .vmem S44x32 .f32) (harg9 : arg9.IsWhole)
    (arg10 : Memref sig .tc .vmem S1x32 .f32) (harg10 : arg10.IsWhole)
    (arg11 : Memref sig .tc .vmem S288x32 .f32) (harg11 : arg11.IsWhole)
    (arg12 : Memref sig .tc .vmem S1x32 .f32) (harg12 : arg12.IsWhole)
    (arg13 : Memref sig .tc .vmem S288x32 .f32) (harg13 : arg13.IsWhole)
    (arg14 : Memref sig .tc .vmem S1x32 .f32) (harg14 : arg14.IsWhole)
    (arg15 : Memref sig .tc .vmem S3168x256 .f32) (harg15 : arg15.IsWhole)
    (arg16 : Memref sig .tc .vmem S1x256 .f32) (harg16 : arg16.IsWhole)
    (arg17 : Memref sig .tc .vmem S4096x256 .f32) (harg17 : arg17.IsWhole)
    (arg18 : Memref sig .tc .vmem S1x256 .f32) (harg18 : arg18.IsWhole) (hc0 : ¬cond0_0 i)
    (x0 : Vec Ideal S4096x51 .f32) (x1 : Vec Ideal S51x64 .f32) (x2 : Vec Ideal S1x64 .f32)
    (x3 : Vec Ideal S64x256 .f32) (x4 : Vec Ideal S38x16 .f32) (x5 : Vec Ideal S6x8 .f32)
    (x6 : Vec Ideal S2x4 .f32) (x7 : Vec Ideal S1x16 .f32) (x8 : Vec Ideal S44x32 .f32)
    (x9 : Vec Ideal S1x32 .f32) (x10 : Vec Ideal S288x32 .f32) (x11 : Vec Ideal S1x32 .f32)
    (x12 : Vec Ideal S288x32 .f32) (x13 : Vec Ideal S1x32 .f32) (x14 : Vec Ideal S3168x256 .f32)
    (x15 : Vec Ideal S1x256 .f32) (r : Vec Ideal S1x256 .f32) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 x15 r
      = k0_pay1 (k0_pay111 x0 x1 x2 x3 r) (k0_pay112 x0 x1 x2 x3 r) := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 x15 r)]
  unfold kernelRun0_B
  dsimp only
  sl_unfold_words
  rw [View.canon_unit_zero corner]
  simp only [View.readAt_eq_ld, harg1.read_unread, harg2.read_unread, harg3.read_unread, harg4.read_unread,
    harg18.read_unread, View.ld_unit_zero (S := S4096x51) corner, View.ld_unit_zero (S := S51x64) corner,
    View.ld_unit_zero (S := S1x64) corner, View.ld_unit_zero (S := S64x256) corner, View.ld_unit_zero (S := S1x256) corner,
    shapeCast_self]

/-- The first point's carried row. -/
theorem carried_first (c : Dev nD) (i : grid0.Coords)
    (arg1 : Memref sig .tc .vmem S4096x51 .f32) (harg1 : arg1.IsWhole)
    (arg2 : Memref sig .tc .vmem S51x64 .f32) (harg2 : arg2.IsWhole)
    (arg3 : Memref sig .tc .vmem S1x64 .f32) (harg3 : arg3.IsWhole)
    (arg4 : Memref sig .tc .vmem S64x256 .f32) (harg4 : arg4.IsWhole)
    (arg5 : Memref sig .tc .vmem S38x16 .f32) (harg5 : arg5.IsWhole)
    (arg6 : Memref sig .tc .vmem S6x8 .f32) (harg6 : arg6.IsWhole)
    (arg7 : Memref sig .tc .vmem S2x4 .f32) (harg7 : arg7.IsWhole)
    (arg8 : Memref sig .tc .vmem S1x16 .f32) (harg8 : arg8.IsWhole)
    (arg9 : Memref sig .tc .vmem S44x32 .f32) (harg9 : arg9.IsWhole)
    (arg10 : Memref sig .tc .vmem S1x32 .f32) (harg10 : arg10.IsWhole)
    (arg11 : Memref sig .tc .vmem S288x32 .f32) (harg11 : arg11.IsWhole)
    (arg12 : Memref sig .tc .vmem S1x32 .f32) (harg12 : arg12.IsWhole)
    (arg13 : Memref sig .tc .vmem S288x32 .f32) (harg13 : arg13.IsWhole)
    (arg14 : Memref sig .tc .vmem S1x32 .f32) (harg14 : arg14.IsWhole)
    (arg15 : Memref sig .tc .vmem S3168x256 .f32) (harg15 : arg15.IsWhole)
    (arg16 : Memref sig .tc .vmem S1x256 .f32) (harg16 : arg16.IsWhole)
    (arg17 : Memref sig .tc .vmem S4096x256 .f32) (harg17 : arg17.IsWhole)
    (arg18 : Memref sig .tc .vmem S1x256 .f32) (harg18 : arg18.IsWhole) (hc0 : cond0_0 i)
    (x0 : Vec Ideal S4096x51 .f32) (x1 : Vec Ideal S51x64 .f32) (x2 : Vec Ideal S1x64 .f32)
    (x3 : Vec Ideal S64x256 .f32) (x4 : Vec Ideal S38x16 .f32) (x5 : Vec Ideal S6x8 .f32)
    (x6 : Vec Ideal S2x4 .f32) (x7 : Vec Ideal S1x16 .f32) (x8 : Vec Ideal S44x32 .f32)
    (x9 : Vec Ideal S1x32 .f32) (x10 : Vec Ideal S288x32 .f32) (x11 : Vec Ideal S1x32 .f32)
    (x12 : Vec Ideal S288x32 .f32) (x13 : Vec Ideal S1x32 .f32) (x14 : Vec Ideal S3168x256 .f32)
    (x15 : Vec Ideal S1x256 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 x15
      = base x4 x5 x6 x7 x8 x9 x10 x11 x12 x13 x14 x15 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 x15)]
  unfold kernelRun0_A
  dsimp only
  sl_unfold_words
  rw [View.canon_unit_zero corner]
  simp only [View.readAt_eq_ld, harg4.read_unread, harg5.read_unread, harg6.read_unread, harg7.read_unread,
    harg8.read_unread, harg9.read_unread, harg10.read_unread, harg11.read_unread, harg12.read_unread, harg13.read_unread, harg14.read_unread, harg15.read_unread, harg16.read_unread,
    View.ld_unit_zero (S := S1x16) corner, View.ld_unit_zero (S := S44x32) corner,
    View.ld_unit_zero (S := S1x32) corner, View.ld_unit_zero (S := S3168x256) corner, View.ld_unit_zero (S := S1x256) corner,
    shapeCast_self]
  simp only [ld_tap0, ld_tap32, ld_tap64, ld_tap96, ld_tap128, ld_tap160, ld_tap192, ld_tap224, ld_tap256]
  rfl

/-- The first point's output: the block of rows computed with the row the point has just carried. -/
theorem out_first (c : Dev nD) (i : grid0.Coords)
    (arg1 : Memref sig .tc .vmem S4096x51 .f32) (harg1 : arg1.IsWhole)
    (arg2 : Memref sig .tc .vmem S51x64 .f32) (harg2 : arg2.IsWhole)
    (arg3 : Memref sig .tc .vmem S1x64 .f32) (harg3 : arg3.IsWhole)
    (arg4 : Memref sig .tc .vmem S64x256 .f32) (harg4 : arg4.IsWhole)
    (arg5 : Memref sig .tc .vmem S38x16 .f32) (harg5 : arg5.IsWhole)
    (arg6 : Memref sig .tc .vmem S6x8 .f32) (harg6 : arg6.IsWhole)
    (arg7 : Memref sig .tc .vmem S2x4 .f32) (harg7 : arg7.IsWhole)
    (arg8 : Memref sig .tc .vmem S1x16 .f32) (harg8 : arg8.IsWhole)
    (arg9 : Memref sig .tc .vmem S44x32 .f32) (harg9 : arg9.IsWhole)
    (arg10 : Memref sig .tc .vmem S1x32 .f32) (harg10 : arg10.IsWhole)
    (arg11 : Memref sig .tc .vmem S288x32 .f32) (harg11 : arg11.IsWhole)
    (arg12 : Memref sig .tc .vmem S1x32 .f32) (harg12 : arg12.IsWhole)
    (arg13 : Memref sig .tc .vmem S288x32 .f32) (harg13 : arg13.IsWhole)
    (arg14 : Memref sig .tc .vmem S1x32 .f32) (harg14 : arg14.IsWhole)
    (arg15 : Memref sig .tc .vmem S3168x256 .f32) (harg15 : arg15.IsWhole)
    (arg16 : Memref sig .tc .vmem S1x256 .f32) (harg16 : arg16.IsWhole)
    (arg17 : Memref sig .tc .vmem S4096x256 .f32) (harg17 : arg17.IsWhole)
    (arg18 : Memref sig .tc .vmem S1x256 .f32) (harg18 : arg18.IsWhole) (hc0 : cond0_0 i)
    (x0 : Vec Ideal S4096x51 .f32) (x1 : Vec Ideal S51x64 .f32) (x2 : Vec Ideal S1x64 .f32)
    (x3 : Vec Ideal S64x256 .f32) (x4 : Vec Ideal S38x16 .f32) (x5 : Vec Ideal S6x8 .f32)
    (x6 : Vec Ideal S2x4 .f32) (x7 : Vec Ideal S1x16 .f32) (x8 : Vec Ideal S44x32 .f32)
    (x9 : Vec Ideal S1x32 .f32) (x10 : Vec Ideal S288x32 .f32) (x11 : Vec Ideal S1x32 .f32)
    (x12 : Vec Ideal S288x32 .f32) (x13 : Vec Ideal S1x32 .f32) (x14 : Vec Ideal S3168x256 .f32)
    (x15 : Vec Ideal S1x256 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 x15
      = k0_pay1 (k0_pay111 x0 x1 x2 x3 (base x4 x5 x6 x7 x8 x9 x10 x11 x12 x13 x14 x15))
          (k0_pay112 x0 x1 x2 x3 (base x4 x5 x6 x7 x8 x9 x10 x11 x12 x13 x14 x15)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 x15)]
  unfold kernelRun0_A
  dsimp only
  sl_unfold_words
  rw [View.canon_unit_zero corner]
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread,
    View.readCov_unit_zero (S := S1x256) _ corner, View.ld_unit_zero (S := S4096x51) corner, View.ld_unit_zero (S := S51x64) corner,
    View.ld_unit_zero (S := S1x64) corner, View.ld_unit_zero (S := S64x256) corner, View.ld_unit_zero (S := S1x16) corner,
    View.ld_unit_zero (S := S44x32) corner, View.ld_unit_zero (S := S1x32) corner, View.ld_unit_zero (S := S3168x256) corner,
    View.ld_unit_zero (S := S1x256) corner, shapeCast_self]
  simp only [ld_tap0, ld_tap32, ld_tap64, ld_tap96, ld_tap128, ld_tap160, ld_tap192, ld_tap224, ld_tap256]
  rfl

end Cert.KernelCase

end
-- ==== Proof.KernelArgs.lean ====
/- What the kernel's operands hold, read off its arguments. -/
module

public import proofs.«01_k».proof.Proof.KernelCase
public import proofs.«01_k».proof.Proof.Gen.KernelIdeal.Value

@[expose] public section

noncomputable section

namespace Cert.KernelArgs

open Idealize.ShloMosaic Idealize.ShloMosaic.TcCoe Idealize.SL.Sem
open Cert.KernelIdeal Cert.KernelIdeal.Gen Cert.KernelPay Cert.KernelCase Cert.Model

variable (m : (ℓ : Loc nD τ sig) → Buf (Elt Ideal) ℓ)

/-- What the kernel finds in an array when it starts. -/
def held (c : Dev nD) (b : Ref sig .tc) : Buf (Elt Ideal) ((c : Thread nD τ).loc b) := V m c b

/-- Nine matrices laid out as one stack of rows: an entry of row `r` is in matrix `r / 96`, `r / 32 % 3`. -/
theorem row_apply (x : Vec Ideal S3x3x32x32 .f32) (r : Fin 288) (o : Fin 32) :
    shapeCast S288x32 x shapeCasts_S3x3x32x32_S288x32 (ix2 r o)
      = x (ix4 ⟨r.val / 96, by omega⟩ ⟨r.val / 32 % 3, by omega⟩ ⟨r.val % 32, by omega⟩ o) := by
  pointwise

/-- The matrices cut from that stack are the nine matrices. -/
theorem stack_apply (x : Vec Ideal S3x3x32x32 .f32) (ky kx : Fin 3) (i o : Fin 32) :
    tapsOf (shapeCast S288x32 x shapeCasts_S3x3x32x32_S288x32) ky kx (ix2 i o) = x (ix4 ky kx i o) := by
  have hr : 32 * (3 * ky.val + kx.val) + i.val < 288 := by omega
  show shapeCast S288x32 x shapeCasts_S3x3x32x32_S288x32 (ix2 ⟨32 * (3 * ky.val + kx.val) + i.val, hr⟩ o) = _
  rw [row_apply]
  congr 1
  have h₁ : (32 * (3 * ky.val + kx.val) + i.val) / 96 = ky.val := by omega
  have h₂ : (32 * (3 * ky.val + kx.val) + i.val) / 32 % 3 = kx.val := by omega
  have h₃ : (32 * (3 * ky.val + kx.val) + i.val) % 32 = i.val := by omega
  simp only [h₁, h₂, h₃]

/-- The launch is given the block table as the program got it. -/
theorem held_main_arg1 (c : Dev nD) : held m c main_arg1 = m ((c : Thread nD τ).loc main_arg1) := V_main_arg1 m c

/-- The launch is given the item table as the program got it. -/
theorem held_main_arg2 (c : Dev nD) : held m c main_arg2 = m ((c : Thread nD τ).loc main_arg2) := V_main_arg2 m c

/-- The launch is given the visibility table as the program got it. -/
theorem held_main_arg3 (c : Dev nD) : held m c main_arg3 = m ((c : Thread nD τ).loc main_arg3) := V_main_arg3 m c

/-- The launch is given the dense layer's weights as the program got it. -/
theorem held_main_arg6 (c : Dev nD) : held m c main_arg6 = m ((c : Thread nD τ).loc main_arg6) := V_main_arg6 m c

/-- The launch is given the extra features' weights as the program got it. -/
theorem held_main_arg12 (c : Dev nD) : held m c main_arg12 = m ((c : Thread nD τ).loc main_arg12) := V_main_arg12 m c

/-- The extra features, as the kernel finds them: the last 51 columns of the observations. -/
theorem at_v0 (c : Dev nD) (i : Fin 8192) (k : Fin 51) :
    (held m c main_v0 : Vec Ideal S8192x51 .f32) (ix2 i k) = (m ((c : Thread nD τ).loc main_arg0) : Vec Ideal S8192x8268 .f32) (ix2 i ⟨8217 + k.val, by omega⟩) := by
  have h : (held m c main_v0 : Vec Ideal S8192x51 .f32) = extractStridedSlice S8192x51 ![0, 8217]
      (m ((c : Thread nD τ).loc main_arg0) : Vec Ideal S8192x8268 .f32) slices_S8192x8268_S8192x51_0_8217 := by
    unfold held
    unfold_abbrev_sides
    after_results
  rw [h]
  pointwise

/-- The rows of the fused weights that meet the flattened map. -/
theorem at_v3 (c : Dev nD) (k : Fin 3168) (n : Fin 256) :
    (held m c main_v3 : Vec Ideal S3168x256 .f32) (ix2 k n) = (m ((c : Thread nD τ).loc main_arg14) : Vec Ideal S3232x256 .f32) (ix2 ⟨k.val, by omega⟩ n) := by
  have h : (held m c main_v3 : Vec Ideal S3168x256 .f32) = extractStridedSlice S3168x256 ![0, 0]
      (m ((c : Thread nD τ).loc main_arg14) : Vec Ideal S3232x256 .f32) slices_S3232x256_S3168x256_0_0 := by
    unfold held
    unfold_abbrev_sides
    after_results
  rw [h]
  pointwise

/-- The rows of the fused weights that meet the extra features. -/
theorem at_v4 (c : Dev nD) (j : Fin 64) (n : Fin 256) :
    (held m c main_v4 : Vec Ideal S64x256 .f32) (ix2 j n) = (m ((c : Thread nD τ).loc main_arg14) : Vec Ideal S3232x256 .f32) (ix2 ⟨3168 + j.val, by omega⟩ n) := by
  have h : (held m c main_v4 : Vec Ideal S64x256 .f32) = extractStridedSlice S64x256 ![3168, 0]
      (m ((c : Thread nD τ).loc main_arg14) : Vec Ideal S3232x256 .f32) slices_S3232x256_S64x256_3168_0 := by
    unfold held
    unfold_abbrev_sides
    after_results
  rw [h]
  pointwise

/-- The first convolution's matrices, cut from the weights laid out as one stack. -/
theorem at_v1 (c : Dev nD) (ky kx : Fin 3) (i o : Fin 32) :
    tapsOf (held m c main_v1 : Vec Ideal S288x32 .f32) ky kx (ix2 i o)
      = (m ((c : Thread nD τ).loc main_arg8) : Vec Ideal S3x3x32x32 .f32) (ix4 ky kx i o) := by
  have h : (held m c main_v1 : Vec Ideal S288x32 .f32) = shapeCast S288x32
      (m ((c : Thread nD τ).loc main_arg8) : Vec Ideal S3x3x32x32 .f32) shapeCasts_S3x3x32x32_S288x32 := by
    unfold held
    unfold_abbrev_sides
    after_results
    rfl
  rw [h]
  exact stack_apply _ ky kx i o

/-- The second convolution's matrices, cut from the weights laid out as one stack. -/
theorem at_v2 (c : Dev nD) (ky kx : Fin 3) (i o : Fin 32) :
    tapsOf (held m c main_v2 : Vec Ideal S288x32 .f32) ky kx (ix2 i o)
      = (m ((c : Thread nD τ).loc main_arg10) : Vec Ideal S3x3x32x32 .f32) (ix4 ky kx i o) := by
  have h : (held m c main_v2 : Vec Ideal S288x32 .f32) = shapeCast S288x32
      (m ((c : Thread nD τ).loc main_arg10) : Vec Ideal S3x3x32x32 .f32) shapeCasts_S3x3x32x32_S288x32 := by
    unfold held
    unfold_abbrev_sides
    after_results
    rfl
  rw [h]
  exact stack_apply _ ky kx i o

/-- The extra features' bias, laid out as a row. -/
theorem at_v5 (c : Dev nD) (o : Fin 64) :
    (held m c main_v5 : Vec Ideal S1x64 .f32) (ix2 0 o) = (m ((c : Thread nD τ).loc main_arg13) : Vec Ideal S64 .f32) (ix1 o) := by
  have h : (held m c main_v5 : Vec Ideal S1x64 .f32) = shapeCast S1x64
      (m ((c : Thread nD τ).loc main_arg13) : Vec Ideal S64 .f32) shapeCasts_S64_S1x64 := by
    unfold held
    unfold_abbrev_sides
    after_results
    rfl
  rw [h]
  pointwise

/-- The row that stands for no actor, laid out as a row. -/
theorem at_v6 (c : Dev nD) (o : Fin 16) :
    (held m c main_v6 : Vec Ideal S1x16 .f32) (ix2 0 o) = (m ((c : Thread nD τ).loc main_arg5) : Vec Ideal S16 .f32) (ix1 o) := by
  have h : (held m c main_v6 : Vec Ideal S1x16 .f32) = shapeCast S1x16
      (m ((c : Thread nD τ).loc main_arg5) : Vec Ideal S16 .f32) shapeCasts_S16_S1x16 := by
    unfold held
    unfold_abbrev_sides
    after_results
    rfl
  rw [h]
  pointwise

/-- The dense layer's bias, laid out as a row. -/
theorem at_v7 (c : Dev nD) (o : Fin 32) :
    (held m c main_v7 : Vec Ideal S1x32 .f32) (ix2 0 o) = (m ((c : Thread nD τ).loc main_arg7) : Vec Ideal S32 .f32) (ix1 o) := by
  have h : (held m c main_v7 : Vec Ideal S1x32 .f32) = shapeCast S1x32
      (m ((c : Thread nD τ).loc main_arg7) : Vec Ideal S32 .f32) shapeCasts_S32_S1x32 := by
    unfold held
    unfold_abbrev_sides
    after_results
    rfl
  rw [h]
  pointwise

/-- The first convolution's bias, laid out as a row. -/
theorem at_v8 (c : Dev nD) (o : Fin 32) :
    (held m c main_v8 : Vec Ideal S1x32 .f32) (ix2 0 o) = (m ((c : Thread nD τ).loc main_arg9) : Vec Ideal S32 .f32) (ix1 o) := by
  have h : (held m c main_v8 : Vec Ideal S1x32 .f32) = shapeCast S1x32
      (m ((c : Thread nD τ).loc main_arg9) : Vec Ideal S32 .f32) shapeCasts_S32_S1x32 := by
    unfold held
    unfold_abbrev_sides
    after_results
    rfl
  rw [h]
  pointwise

/-- The second convolution's bias, laid out as a row. -/
theorem at_v9 (c : Dev nD) (o : Fin 32) :
    (held m c main_v9 : Vec Ideal S1x32 .f32) (ix2 0 o) = (m ((c : Thread nD τ).loc main_arg11) : Vec Ideal S32 .f32) (ix1 o) := by
  have h : (held m c main_v9 : Vec Ideal S1x32 .f32) = shapeCast S1x32
      (m ((c : Thread nD τ).loc main_arg11) : Vec Ideal S32 .f32) shapeCasts_S32_S1x32 := by
    unfold held
    unfold_abbrev_sides
    after_results
    rfl
  rw [h]
  pointwise

/-- The fused layer's bias, laid out as a row. -/
theorem at_v10 (c : Dev nD) (o : Fin 256) :
    (held m c main_v10 : Vec Ideal S1x256 .f32) (ix2 0 o) = (m ((c : Thread nD τ).loc main_arg15) : Vec Ideal S256 .f32) (ix1 o) := by
  have h : (held m c main_v10 : Vec Ideal S1x256 .f32) = shapeCast S1x256
      (m ((c : Thread nD τ).loc main_arg15) : Vec Ideal S256 .f32) shapeCasts_S256_S1x256 := by
    unfold held
    unfold_abbrev_sides
    after_results
    rfl
  rw [h]
  pointwise

/-- The rows of the extra features that the point `t` reads. -/
theorem win0 (c : Dev nD) (t : Fin cfg0.N) (i : Fin 4096) (k : Fin 51) (h : t.val * 4096 + i.val < 8192) :
    (iblk m c 0 t : Vec Ideal S4096x51 .f32) (ix2 i k) = (held m c main_v0 : Vec Ideal S8192x51 .f32) (ix2 ⟨t.val * 4096 + i.val, h⟩ k) := by
  have hi : win0_0.index t 0 = t.val ∧ win0_0.index t 1 = 0 := by rcases fin_N0 t with rfl | rfl <;> decide
  unfold iblk
  rw [View.read_apply]
  show held m c main_v0 _ = held m c main_v0 _
  congr 1
  funext a
  apply Fin.ext
  match a with
  | ⟨0, _⟩ => show win0_0.index t 0 * 4096 + 1 * i.val = t.val * 4096 + i.val; rw [hi.1]; omega
  | ⟨1, _⟩ => show win0_0.index t 1 * 51 + 1 * k.val = k.val; rw [hi.2]; omega

/-- Operand 1 is read whole at every point. -/
theorem win1 (c : Dev nD) (t : Fin cfg0.N) : (iblk m c 1 t : Vec Ideal S51x64 .f32) = held m c main_arg12 := by
  have hi : win0_1.index t 0 = 0 ∧ win0_1.index t 1 = 0 := by rcases fin_N0 t with rfl | rfl <;> decide
  funext j
  unfold iblk
  rw [View.read_apply]
  show held m c main_arg12 _ = held m c main_arg12 _
  congr 1
  funext a
  apply Fin.ext
  match a with
  | ⟨0, _⟩ => show win0_1.index t 0 * 51 + 1 * (j 0).val = (j 0).val; rw [hi.1]; omega
  | ⟨1, _⟩ => show win0_1.index t 1 * 64 + 1 * (j 1).val = (j 1).val; rw [hi.2]; omega

/-- Operand 2 is read whole at every point. -/
theorem win2 (c : Dev nD) (t : Fin cfg0.N) : (iblk m c 2 t : Vec Ideal S1x64 .f32) = held m c main_v5 := by
  have hi : win0_2.index t 0 = 0 ∧ win0_2.index t 1 = 0 := by rcases fin_N0 t with rfl | rfl <;> decide
  funext j
  unfold iblk
  rw [View.read_apply]
  show held m c main_v5 _ = held m c main_v5 _
  congr 1
  funext a
  apply Fin.ext
  match a with
  | ⟨0, _⟩ => show win0_2.index t 0 * 1 + 1 * (j 0).val = (j 0).val; rw [hi.1]; omega
  | ⟨1, _⟩ => show win0_2.index t 1 * 64 + 1 * (j 1).val = (j 1).val; rw [hi.2]; omega

/-- Operand 3 is read whole at every point. -/
theorem win3 (c : Dev nD) (t : Fin cfg0.N) : (iblk m c 3 t : Vec Ideal S64x256 .f32) = held m c main_v4 := by
  have hi : win0_3.index t 0 = 0 ∧ win0_3.index t 1 = 0 := by rcases fin_N0 t with rfl | rfl <;> decide
  funext j
  unfold iblk
  rw [View.read_apply]
  show held m c main_v4 _ = held m c main_v4 _
  congr 1
  funext a
  apply Fin.ext
  match a with
  | ⟨0, _⟩ => show win0_3.index t 0 * 64 + 1 * (j 0).val = (j 0).val; rw [hi.1]; omega
  | ⟨1, _⟩ => show win0_3.index t 1 * 256 + 1 * (j 1).val = (j 1).val; rw [hi.2]; omega

/-- Operand 4 is read whole at every point. -/
theorem win4 (c : Dev nD) (t : Fin cfg0.N) : (iblk m c 4 t : Vec Ideal S38x16 .f32) = held m c main_arg1 := by
  have hi : win0_4.index t 0 = 0 ∧ win0_4.index t 1 = 0 := by rcases fin_N0 t with rfl | rfl <;> decide
  funext j
  unfold iblk
  rw [View.read_apply]
  show held m c main_arg1 _ = held m c main_arg1 _
  congr 1
  funext a
  apply Fin.ext
  match a with
  | ⟨0, _⟩ => show win0_4.index t 0 * 38 + 1 * (j 0).val = (j 0).val; rw [hi.1]; omega
  | ⟨1, _⟩ => show win0_4.index t 1 * 16 + 1 * (j 1).val = (j 1).val; rw [hi.2]; omega

/-- Operand 5 is read whole at every point. -/
theorem win5 (c : Dev nD) (t : Fin cfg0.N) : (iblk m c 5 t : Vec Ideal S6x8 .f32) = held m c main_arg2 := by
  have hi : win0_5.index t 0 = 0 ∧ win0_5.index t 1 = 0 := by rcases fin_N0 t with rfl | rfl <;> decide
  funext j
  unfold iblk
  rw [View.read_apply]
  show held m c main_arg2 _ = held m c main_arg2 _
  congr 1
  funext a
  apply Fin.ext
  match a with
  | ⟨0, _⟩ => show win0_5.index t 0 * 6 + 1 * (j 0).val = (j 0).val; rw [hi.1]; omega
  | ⟨1, _⟩ => show win0_5.index t 1 * 8 + 1 * (j 1).val = (j 1).val; rw [hi.2]; omega

/-- Operand 6 is read whole at every point. -/
theorem win6 (c : Dev nD) (t : Fin cfg0.N) : (iblk m c 6 t : Vec Ideal S2x4 .f32) = held m c main_arg3 := by
  have hi : win0_6.index t 0 = 0 ∧ win0_6.index t 1 = 0 := by rcases fin_N0 t with rfl | rfl <;> decide
  funext j
  unfold iblk
  rw [View.read_apply]
  show held m c main_arg3 _ = held m c main_arg3 _
  congr 1
  funext a
  apply Fin.ext
  match a with
  | ⟨0, _⟩ => show win0_6.index t 0 * 2 + 1 * (j 0).val = (j 0).val; rw [hi.1]; omega
  | ⟨1, _⟩ => show win0_6.index t 1 * 4 + 1 * (j 1).val = (j 1).val; rw [hi.2]; omega

/-- Operand 7 is read whole at every point. -/
theorem win7 (c : Dev nD) (t : Fin cfg0.N) : (iblk m c 7 t : Vec Ideal S1x16 .f32) = held m c main_v6 := by
  have hi : win0_7.index t 0 = 0 ∧ win0_7.index t 1 = 0 := by rcases fin_N0 t with rfl | rfl <;> decide
  funext j
  unfold iblk
  rw [View.read_apply]
  show held m c main_v6 _ = held m c main_v6 _
  congr 1
  funext a
  apply Fin.ext
  match a with
  | ⟨0, _⟩ => show win0_7.index t 0 * 1 + 1 * (j 0).val = (j 0).val; rw [hi.1]; omega
  | ⟨1, _⟩ => show win0_7.index t 1 * 16 + 1 * (j 1).val = (j 1).val; rw [hi.2]; omega

/-- Operand 8 is read whole at every point. -/
theorem win8 (c : Dev nD) (t : Fin cfg0.N) : (iblk m c 8 t : Vec Ideal S44x32 .f32) = held m c main_arg6 := by
  have hi : win0_8.index t 0 = 0 ∧ win0_8.index t 1 = 0 := by rcases fin_N0 t with rfl | rfl <;> decide
  funext j
  unfold iblk
  rw [View.read_apply]
  show held m c main_arg6 _ = held m c main_arg6 _
  congr 1
  funext a
  apply Fin.ext
  match a with
  | ⟨0, _⟩ => show win0_8.index t 0 * 44 + 1 * (j 0).val = (j 0).val; rw [hi.1]; omega
  | ⟨1, _⟩ => show win0_8.index t 1 * 32 + 1 * (j 1).val = (j 1).val; rw [hi.2]; omega

/-- Operand 9 is read whole at every point. -/
theorem win9 (c : Dev nD) (t : Fin cfg0.N) : (iblk m c 9 t : Vec Ideal S1x32 .f32) = held m c main_v7 := by
  have hi : win0_9.index t 0 = 0 ∧ win0_9.index t 1 = 0 := by rcases fin_N0 t with rfl | rfl <;> decide
  funext j
  unfold iblk
  rw [View.read_apply]
  show held m c main_v7 _ = held m c main_v7 _
  congr 1
  funext a
  apply Fin.ext
  match a with
  | ⟨0, _⟩ => show win0_9.index t 0 * 1 + 1 * (j 0).val = (j 0).val; rw [hi.1]; omega
  | ⟨1, _⟩ => show win0_9.index t 1 * 32 + 1 * (j 1).val = (j 1).val; rw [hi.2]; omega

/-- Operand 10 is read whole at every point. -/
theorem win10 (c : Dev nD) (t : Fin cfg0.N) : (iblk m c 10 t : Vec Ideal S288x32 .f32) = held m c main_v1 := by
  have hi : win0_10.index t 0 = 0 ∧ win0_10.index t 1 = 0 := by rcases fin_N0 t with rfl | rfl <;> decide
  funext j
  unfold iblk
  rw [View.read_apply]
  show held m c main_v1 _ = held m c main_v1 _
  congr 1
  funext a
  apply Fin.ext
  match a with
  | ⟨0, _⟩ => show win0_10.index t 0 * 288 + 1 * (j 0).val = (j 0).val; rw [hi.1]; omega
  | ⟨1, _⟩ => show win0_10.index t 1 * 32 + 1 * (j 1).val = (j 1).val; rw [hi.2]; omega

/-- Operand 11 is read whole at every point. -/
theorem win11 (c : Dev nD) (t : Fin cfg0.N) : (iblk m c 11 t : Vec Ideal S1x32 .f32) = held m c main_v8 := by
  have hi : win0_11.index t 0 = 0 ∧ win0_11.index t 1 = 0 := by rcases fin_N0 t with rfl | rfl <;> decide
  funext j
  unfold iblk
  rw [View.read_apply]
  show held m c main_v8 _ = held m c main_v8 _
  congr 1
  funext a
  apply Fin.ext
  match a with
  | ⟨0, _⟩ => show win0_11.index t 0 * 1 + 1 * (j 0).val = (j 0).val; rw [hi.1]; omega
  | ⟨1, _⟩ => show win0_11.index t 1 * 32 + 1 * (j 1).val = (j 1).val; rw [hi.2]; omega

/-- Operand 12 is read whole at every point. -/
theorem win12 (c : Dev nD) (t : Fin cfg0.N) : (iblk m c 12 t : Vec Ideal S288x32 .f32) = held m c main_v2 := by
  have hi : win0_12.index t 0 = 0 ∧ win0_12.index t 1 = 0 := by rcases fin_N0 t with rfl | rfl <;> decide
  funext j
  unfold iblk
  rw [View.read_apply]
  show held m c main_v2 _ = held m c main_v2 _
  congr 1
  funext a
  apply Fin.ext
  match a with
  | ⟨0, _⟩ => show win0_12.index t 0 * 288 + 1 * (j 0).val = (j 0).val; rw [hi.1]; omega
  | ⟨1, _⟩ => show win0_12.index t 1 * 32 + 1 * (j 1).val = (j 1).val; rw [hi.2]; omega

/-- Operand 13 is read whole at every point. -/
theorem win13 (c : Dev nD) (t : Fin cfg0.N) : (iblk m c 13 t : Vec Ideal S1x32 .f32) = held m c main_v9 := by
  have hi : win0_13.index t 0 = 0 ∧ win0_13.index t 1 = 0 := by rcases fin_N0 t with rfl | rfl <;> decide
  funext j
  unfold iblk
  rw [View.read_apply]
  show held m c main_v9 _ = held m c main_v9 _
  congr 1
  funext a
  apply Fin.ext
  match a with
  | ⟨0, _⟩ => show win0_13.index t 0 * 1 + 1 * (j 0).val = (j 0).val; rw [hi.1]; omega
  | ⟨1, _⟩ => show win0_13.index t 1 * 32 + 1 * (j 1).val = (j 1).val; rw [hi.2]; omega

/-- Operand 14 is read whole at every point. -/
theorem win14 (c : Dev nD) (t : Fin cfg0.N) : (iblk m c 14 t : Vec Ideal S3168x256 .f32) = held m c main_v3 := by
  have hi : win0_14.index t 0 = 0 ∧ win0_14.index t 1 = 0 := by rcases fin_N0 t with rfl | rfl <;> decide
  funext j
  unfold iblk
  rw [View.read_apply]
  show held m c main_v3 _ = held m c main_v3 _
  congr 1
  funext a
  apply Fin.ext
  match a with
  | ⟨0, _⟩ => show win0_14.index t 0 * 3168 + 1 * (j 0).val = (j 0).val; rw [hi.1]; omega
  | ⟨1, _⟩ => show win0_14.index t 1 * 256 + 1 * (j 1).val = (j 1).val; rw [hi.2]; omega

/-- Operand 15 is read whole at every point. -/
theorem win15 (c : Dev nD) (t : Fin cfg0.N) : (iblk m c 15 t : Vec Ideal S1x256 .f32) = held m c main_v10 := by
  have hi : win0_15.index t 0 = 0 ∧ win0_15.index t 1 = 0 := by rcases fin_N0 t with rfl | rfl <;> decide
  funext j
  unfold iblk
  rw [View.read_apply]
  show held m c main_v10 _ = held m c main_v10 _
  congr 1
  funext a
  apply Fin.ext
  match a with
  | ⟨0, _⟩ => show win0_15.index t 0 * 1 + 1 * (j 0).val = (j 0).val; rw [hi.1]; omega
  | ⟨1, _⟩ => show win0_15.index t 1 * 256 + 1 * (j 1).val = (j 1).val; rw [hi.2]; omega

end Cert.KernelArgs

end
-- ==== Proof.KernelValue.lean ====
/- What the kernel's result array ends holding, entry by entry, in terms of its arguments. -/
module

public import proofs.«01_k».proof.Proof.KernelArgs

@[expose] public section

noncomputable section

namespace Cert.KernelValue

open Idealize.ShloMosaic Idealize.ShloMosaic.TcCoe Idealize.SL.Sem
open Cert.KernelIdeal Cert.KernelIdeal.Gen Cert.KernelIdeal.Value Cert.KernelPay Cert.KernelCase Cert.KernelArgs Cert.Model

variable (m : (ℓ : Loc nD τ sig) → Buf (Elt Ideal) ℓ)

/-- An argument of the kernel, as launched. -/
abbrev arg (c : Dev nD) (b : Ref sig .tc) : Buf (Elt Ideal) ((c : Thread nD τ).loc b) := m ((c : Thread nD τ).loc b)

/-- The row carried from the first point on, from the operands. -/
def carried (c : Dev nD) : Vec Ideal S1x256 .f32 :=
  base (held m c main_arg1) (held m c main_arg2) (held m c main_arg3) (held m c main_v6) (held m c main_arg6) (held m c main_v7) (held m c main_v1)
    (held m c main_v8) (held m c main_v2) (held m c main_v9) (held m c main_v3) (held m c main_v10)

/-- The block of rows whose extra features are `x`. -/
def block (c : Dev nD) (x : Vec Ideal S4096x51 .f32) : Vec Ideal S4096x256 .f32 :=
  k0_pay1 (k0_pay111 x (held m c main_arg12) (held m c main_v5) (held m c main_v4) (carried m c))
    (k0_pay112 x (held m c main_arg12) (held m c main_v5) (held m c main_v4) (carried m c))

/-- After the first point: its block of rows, and the carried row. -/
theorem step_first (c : Dev nD) (t : Fin cfg0.N) (acc : Vec Ideal S4096x256 .f32 × Vec Ideal S1x256 .f32) (h0 : t.val % 2 = 0) :
    stAt0 m c t.val t.isLt acc = (block m c (iblk m c 0 t), carried m c) := by
  rw [stAt0_A m c t acc h0, out_first, carried_first]
  unfold block carried
  simp only [win1, win2, win3, win4, win5, win6, win7, win8, win9, win10, win11, win12, win13, win14, win15]

/-- After a later point, entered with the carried row: its block of rows, and the same carried row. -/
theorem step_later (c : Dev nD) (t : Fin cfg0.N) (o : Vec Ideal S4096x256 .f32) (h0 : ¬t.val % 2 = 0) :
    stAt0 m c t.val t.isLt (o, carried m c) = (block m c (iblk m c 0 t), carried m c) := by
  rw [stAt0_B m c t _ h0, out_later]
  unfold sout0_B_0 block
  simp only [win1, win2, win3]

/-- The two points' outcomes, in order. -/
theorem steps (c : Dev nD) (n : ℕ) (hn : n < cfg0.N) :
    Pipeline.accAt (fun n h => stAt0 m c n h junk0) (stAt0 m c) 0 n (by omega) = (block m c (iblk m c 0 ⟨n, hn⟩), carried m c) := by
  have hN : cfg0.N = 2 := N_0
  match n, hn with
  | 0, hn => exact step_first m c ⟨0, hn⟩ _ rfl
  | 1, hn =>
    show stAt0 m c 1 _ (stAt0 m c 0 _ junk0) = _
    rw [step_first m c ⟨0, by omega⟩ _ rfl]
    exact step_later m c ⟨1, hn⟩ _ (by show ¬1 % 2 = 0; decide)
  | n + 2, hn => omega

/-- The carried row at column `n`, from the arguments. -/
theorem carried_apply (c : Dev nD) (n : Fin 256) :
    carried m c (ix2 0 n)
      = (∑ k : Fin 3168, spatial (dense (cell (fun k => arg m c main_arg1 (ix2 0 k)) (fun k => arg m c main_arg2 (ix2 0 k))
          (fun k => arg m c main_arg5 (ix1 k)) (fun k => arg m c main_arg3 (ix2 0 k)))
          (fun k o => arg m c main_arg6 (ix2 k o)) (fun o => arg m c main_arg7 (ix1 o)))
          (fun ky kx i o => arg m c main_arg8 (ix4 ky kx i o)) (fun o => arg m c main_arg9 (ix1 o))
          (fun ky kx i o => arg m c main_arg10 (ix4 ky kx i o)) (fun o => arg m c main_arg11 (ix1 o))
          ⟨k.val / 32 / 11, by omega⟩ ⟨k.val / 32 % 11, by omega⟩ ⟨k.val % 32, by omega⟩
          * arg m c main_arg14 (ix2 ⟨k.val, by omega⟩ n)) + arg m c main_arg15 (ix1 n) := by
  have hbe : ∀ k : Fin 16, View.ld (held m c main_arg1 : Vec Ideal S38x16 .f32) (Rect.unit (s := S38x16) ![0, 0] S1x16.size inb_S38x16_S1x16_0_0)
      (ix2 0 k) = arg m c main_arg1 (ix2 0 k) := fun k => by
    rw [held_main_arg1]
    pointwise
  have hie : ∀ k : Fin 8, View.ld (held m c main_arg2 : Vec Ideal S6x8 .f32) (Rect.unit (s := S6x8) ![0, 0] S1x8.size inb_S6x8_S1x8_0_0)
      (ix2 0 k) = arg m c main_arg2 (ix2 0 k) := fun k => by
    rw [held_main_arg2]
    pointwise
  have hve : ∀ k : Fin 4, View.ld (held m c main_arg3 : Vec Ideal S2x4 .f32) (Rect.unit (s := S2x4) ![0, 0] S1x4.size inb_S2x4_S1x4_0_0)
      (ix2 0 k) = arg m c main_arg3 (ix2 0 k) := fun k => by
    rw [held_main_arg3]
    pointwise
  unfold carried base
  rw [baseRow_apply]
  unfold taps
  simp only [hbe, hie, hve, at_v6, at_v7, at_v1, at_v8, at_v2, at_v9, at_v3, at_v10, held_main_arg6]

/-- The kernel's result at row `r` and column `n` is the network's result for that row. -/
theorem final_apply (c : Dev nD) (r : Fin 8192) (n : Fin 256) :
    G16 m c (ix2 r n) = result (fun k => arg m c main_arg0 (ix2 r ⟨8217 + k.val, by omega⟩))
      (fun k => arg m c main_arg1 (ix2 0 k)) (fun k => arg m c main_arg2 (ix2 0 k)) (fun k => arg m c main_arg3 (ix2 0 k))
      (fun k => arg m c main_arg5 (ix1 k)) (fun k o => arg m c main_arg6 (ix2 k o)) (fun o => arg m c main_arg7 (ix1 o))
      (fun ky kx i o => arg m c main_arg8 (ix4 ky kx i o)) (fun o => arg m c main_arg9 (ix1 o))
      (fun ky kx i o => arg m c main_arg10 (ix4 ky kx i o)) (fun o => arg m c main_arg11 (ix1 o))
      (fun k o => arg m c main_arg12 (ix2 k o)) (fun o => arg m c main_arg13 (ix1 o))
      (fun k n => arg m c main_arg14 (ix2 k n)) (fun n => arg m c main_arg15 (ix1 n)) n := by
  have hN : cfg0.N = 2 := N_0
  have hp : pt16Of (ix2 r n) = r.val / 4096 := by
    show 1 * (r.val / 4096 - 0) + 1 * (n.val / 256 - 0) = _
    omega
  have hl : loc16Of (ix2 r n) = ix2 ⟨r.val % 4096, by omega⟩ n := by
    funext a
    match a with
    | ⟨0, _⟩ => rfl
    | ⟨1, _⟩ => exact Fin.ext (Nat.mod_eq_of_lt n.isLt)
  have ht : r.val / 4096 < cfg0.N := by omega
  unfold G16
  rw [dif_pos (by rw [hp]; exact ht), hl, steps m c _ (by rw [hp]; exact ht)]
  unfold block
  dsimp only
  rw [gelu_apply, out_apply, carried_apply]
  unfold result
  have hx : ∀ k : Fin 51, (iblk m c 0 ⟨pt16Of (ix2 r n), by rw [hp]; exact ht⟩ : Vec Ideal S4096x51 .f32) (ix2 ⟨r.val % 4096, by omega⟩ k)
      = arg m c main_arg0 (ix2 r ⟨8217 + k.val, by omega⟩) := fun k => by
    have hr : pt16Of (ix2 r n) * 4096 + r.val % 4096 = r.val := by rw [hp]; omega
    rw [win0 m c _ _ _ (by show pt16Of (ix2 r n) * 4096 + r.val % 4096 < 8192; rw [hr]; exact r.isLt), at_v0]
    simp only [hr]
  simp only [hx, at_v4, at_v5, held_main_arg12]

end Cert.KernelValue

end
-- ==== Proof.RefCell.lean ====
/- What the reference computes for one cell of an observation whose visibilities are all 0. -/
module

public import proofs.«01_k».proof.Proof.Gen.ReferenceIdeal.Run
public import proofs.«01_k».proof.Proof.Model
public import Idealize.ShloMosaic.Lib.Pipeline.Value

@[expose] public section

noncomputable section

namespace Cert.RefCell

open Idealize.ShloMosaic Idealize.ShloMosaic.TcCoe Idealize.ShloMosaic.StableHlo Cert.ReferenceIdeal Cert.ReferenceIdeal.Gen Cert.ReferenceIdeal.Value Cert.Model

/-- A gather of whole rows of a table of `R` rows of `K` entries, one row index for each cell. -/
abbrev rowDims (R K : Nat) (wf : GatherDims.WF ⟨2, ![R, K]⟩ S8192x9x11x1 ⟨4, ![8192, 9, 11, K]⟩ [3] [0] [] [0] [] 3 ![1, K]) :
    GatherDims ⟨2, ![R, K]⟩ S8192x9x11x1 ⟨4, ![8192, 9, 11, K]⟩ where
  offsetDims := [3]
  collapsedSliceDims := [0]
  operandBatchingDims := []
  startIndicesBatchingDims := []
  startIndexMap := [0]
  indexVectorDim := 3
  sliceSizes := ![1, K]
  wf := wf

/-- Gathered at index 0 everywhere, every cell gets row 0 of the table. -/
theorem gather_zero {α : Type} {R K : Nat} (hR : 0 < R)
    (wf : GatherDims.WF ⟨2, ![R, K]⟩ S8192x9x11x1 ⟨4, ![8192, 9, 11, K]⟩ [3] [0] [] [0] [] 3 ![1, K])
    (tbl : (⟨2, ![R, K]⟩ : Shape).Idx → α) (i : Fin 8192) (y : Fin 9) (x : Fin 11) (k : Fin K) :
    Host.gather (rowDims R K wf) tbl (fun _ => 0#32) (ix4 i y x k) = tbl (ix2 ⟨0, hR⟩ k) := by
  unfold Host.gather
  congr 1
  funext a
  refine Fin.ext ?_
  show (rowDims R K wf).start (ix4 i y x k) (fun _ => 0#32) a + (rowDims R K wf).batchCoord (ix4 i y x k) a
    + (rowDims R K wf).offCoord (ix4 i y x k) a = _
  have hs : (rowDims R K wf).start (ix4 i y x k) (fun _ => 0#32) a = 0 := by
    unfold GatherDims.start
    split <;> simp
  rw [hs, GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    rfl
  | ⟨1, _⟩ =>
    show 0 + 0 + _ = k.val
    rw [Nat.zero_add]
    rfl

/-- A conjunction over any set of places all true is true. -/
theorem fold_true {ι : Type} (S : Finset ι) : Finset.fold IntOp.andi (1#1 : BitVec 1) (fun _ => 1#1) S = 1#1 := by
  classical
  induction S using Finset.induction_on with
  | empty => rfl
  | insert a S ha ih => rw [Finset.fold_insert ha, ih]; rfl

/-- A disjunction over any set of places all false is false. -/
theorem fold_false {ι : Type} (S : Finset ι) : Finset.fold IntOp.ori (0#1 : BitVec 1) (fun _ => 0#1) S = 0#1 := by
  classical
  induction S using Finset.induction_on with
  | empty => rfl
  | insert a S ha ih => rw [Finset.fold_insert ha, ih]; rfl

variable (V0 : Valuation τ sig (Elt Ideal))

/-- Every visibility, made an integer, is 0. -/
def Hidden : Prop := ∀ (i : Fin 8192) (y : Fin 9) (x : Fin 11), res_main_v8 V0 (ix3 i y x) = 0#32

/-- A choice whose condition also asks for something false takes the second value. -/
theorem select_false {α : Type} (p : BitVec 1) (a b : α) : Scalar.select (IntOp.andi p 0#1) a b = b := by
  have h : IntOp.andi p 0#1 = 0#1 := BitVec.and_zero
  rw [h]
  rfl

variable (hv : Hidden V0)
include hv

/-- No cell is visible. -/
theorem vis (i : Fin 8192) (y : Fin 9) (x : Fin 11) : res_main_v11 V0 (ix3 i y x) = 0#1 := by
  unfold res_main_v11
  have h := hv i y x
  dsimp only [id]
  pointwise
  rw [h]
  rfl

/-- Every block index is 0. -/
theorem building (i : Fin 8192) (y : Fin 9) (x : Fin 11) : res_main_v26 V0 (ix3 i y x) = 0#32 := by
  unfold res_main_v26
  have h := vis V0 hv i y x
  pointwise
  rw [h]
  exact select_false _ _ _

/-- Every item index is 0. -/
theorem item (i : Fin 8192) (y : Fin 9) (x : Fin 11) : res_main_v41 V0 (ix3 i y x) = 0#32 := by
  unfold res_main_v41
  have h := vis V0 hv i y x
  pointwise
  rw [h]
  exact select_false _ _ _

/-- Every cell's actors are masked to 0. -/
theorem actor (i : Fin 8192) (y : Fin 9) (x : Fin 11) (k : Fin 40) : (res_main_v45 V0 : Vec Ideal S8192x9x11x40 .f32) (ix4 i y x k) = (0 : EReal) := by
  unfold res_main_v45
  have h := vis V0 hv i y x
  pointwise
  rw [h]
  have h0 : (FloatOps.uitofp FTy.f32 0#1 : Ideal .f32) = (0 : EReal) := by simp [FloatOps.uitofp]
  rw [h0, mul_zero]

/-- The index the block table is read at is 0. -/
theorem index_building (i : Fin 8192) (y : Fin 9) (x : Fin 11) : res_main_call4_v5 V0 (ix4 i y x 0) = 0#32 := by
  unfold res_main_call4_v5
  have h := building V0 hv i y x
  pointwise
  rw [h]
  rfl

/-- The index the item table is read at is 0. -/
theorem index_item (i : Fin 8192) (y : Fin 9) (x : Fin 11) : res_main_call5_v5 V0 (ix4 i y x 0) = 0#32 := by
  unfold res_main_call5_v5
  have h := item V0 hv i y x
  pointwise
  rw [h]
  rfl

/-- The index the visibility table is read at is 0. -/
theorem index_vis (i : Fin 8192) (y : Fin 9) (x : Fin 11) : res_main_call6_v5 V0 (ix4 i y x 0) = 0#32 := by
  unfold res_main_call6_v5
  have h := hv i y x
  pointwise
  rw [h]
  rfl

omit hv in
/-- The contents of an argument, as the reference's run starts from them. -/
abbrev arg (b : Ref sig .tc) : (Proc.devRef .tc b : DevRef τ sig).ty.Contents (Elt Ideal) := V0 (Proc.devRef .tc b)

/-- The reference's dense layer before its GELU: every cell of every observation is the one cell of a hidden map. -/
theorem dense_pre (i : Fin 8192) (y : Fin 9) (x : Fin 11) (o : Fin 32) :
    (res_main_v66 V0 : Vec Ideal S8192x9x11x32 .f32) (ix4 i y x o)
      = (∑ k : Fin 44, cell (fun k => arg V0 main_arg1 (ix2 0 k)) (fun k => arg V0 main_arg2 (ix2 0 k))
          (fun k => arg V0 main_arg5 (ix1 k)) (fun k => arg V0 main_arg3 (ix2 0 k)) k * arg V0 main_arg6 (ix2 k o))
        + arg V0 main_arg7 (ix1 o) := by
  have h4 : res_main_call4_v5 V0 = fun _ => 0#32 := funext fun j => by
    obtain ⟨a, b, c, d, rfl⟩ : ∃ (a : Fin 8192) (b : Fin 9) (c : Fin 11) (d : Fin 1), j = ix4 a b c d := ⟨_, _, _, _, eq_ix4 j⟩
    obtain rfl : d = 0 := Subsingleton.elim _ _
    exact index_building V0 hv _ _ _
  have h5 : res_main_call5_v5 V0 = fun _ => 0#32 := funext fun j => by
    obtain ⟨a, b, c, d, rfl⟩ : ∃ (a : Fin 8192) (b : Fin 9) (c : Fin 11) (d : Fin 1), j = ix4 a b c d := ⟨_, _, _, _, eq_ix4 j⟩
    obtain rfl : d = 0 := Subsingleton.elim _ _
    exact index_item V0 hv _ _ _
  have h6 : res_main_call6_v5 V0 = fun _ => 0#32 := funext fun j => by
    obtain ⟨a, b, c, d, rfl⟩ : ∃ (a : Fin 8192) (b : Fin 9) (c : Fin 11) (d : Fin 1), j = ix4 a b c d := ⟨_, _, _, _, eq_ix4 j⟩
    obtain rfl : d = 0 := Subsingleton.elim _ _
    exact index_vis V0 hv _ _ _
  have h45 : (res_main_v45 V0 : Vec Ideal S8192x9x11x40 .f32) = fun _ => (0 : EReal) := funext fun j => by
    rw [eq_ix4 j]
    exact actor V0 hv _ _ _ _
  have hge : IntOp.cmpi .sge (0#32) 0#32 = 1#1 := rfl
  have h37 : IntOp.cmpi .sle (0#32) 37#32 = 1#1 := rfl
  have h5' : IntOp.cmpi .sle (0#32) 5#32 = 1#1 := rfl
  have h1 : IntOp.cmpi .sle (0#32) 1#32 = 1#1 := rfl
  have hand : IntOp.andi 1#1 1#1 = 1#1 := rfl
  have hsel : ∀ a b : EReal, Scalar.select 1#1 a b = a := fun _ _ => rfl
  have hnot : BitVec.ofBool (decide ((0 : EReal) < 0)) = 0#1 := by simp
  have hu : (FloatOps.uitofp FTy.f32 0#1 : Ideal .f32) = (0 : EReal) := by simp [FloatOps.uitofp]
  have gb : ∀ k : Fin 16, Host.gather gather_S38x16_S8192x9x11x1_S8192x9x11x16_3_0_n_n_0_3_116 (arg V0 main_arg1 : Vec Ideal S38x16 .f32)
      (fun _ => 0#32) (ix4 i y x k) = arg V0 main_arg1 (ix2 0 k) := fun k => gather_zero (by omega) _ _ i y x k
  have gi : ∀ k : Fin 8, Host.gather gather_S6x8_S8192x9x11x1_S8192x9x11x8_3_0_n_n_0_3_18 (arg V0 main_arg2 : Vec Ideal S6x8 .f32)
      (fun _ => 0#32) (ix4 i y x k) = arg V0 main_arg2 (ix2 0 k) := fun k => gather_zero (by omega) _ _ i y x k
  have gv : ∀ k : Fin 4, Host.gather gather_S2x4_S8192x9x11x1_S8192x9x11x4_3_0_n_n_0_3_14 (arg V0 main_arg3 : Vec Ideal S2x4 .f32)
      (fun _ => 0#32) (ix4 i y x k) = arg V0 main_arg3 (ix2 0 k) := fun k => gather_zero (by omega) _ _ i y x k
  unfold res_main_v66
  pointwise
  simp only [h4, h5, h6, h45, hge, h37, h5', h1, hand, fold_true, hsel, hnot, fold_false, hu, zero_mul, Finset.sum_const_zero, zero_add, sub_zero, one_mul]
  refine congrArg (· + _) (Finset.sum_congr rfl fun k _ => congrArg (· * _) ?_)
  unfold cell
  exact dite_congr rfl (fun _ => gb _) fun _ => dite_congr rfl (fun _ => gi _) fun _ =>
    dite_congr rfl (fun _ => rfl) fun _ => gv _

end Cert.RefCell

end
-- ==== Proof.RefHidden.lean ====
/- What the precondition says: every visibility lies strictly between -1 and 1, so the reference casts it to 0. -/
module

public import proofs.«01_k».proof.Proof.Gen.Pre_hidden_map
public import proofs.«01_k».proof.Proof.RefCell
public import Idealize.ShloMosaic.Lib.ReduceAll

@[expose] public section

noncomputable section

namespace Cert.RefHidden

open Idealize.ShloMosaic Idealize.ShloMosaic.TcCoe Idealize.ShloMosaic.StableHlo Cert.ReferenceIdeal Cert.ReferenceIdeal.Gen Cert.ReferenceIdeal.Value Cert.RefCell

/-- A number strictly between -1 and 1 is truncated to the integer 0. -/
theorem trunc_zero (x : EReal) (h₁ : ((-1 : ℝ) : EReal) < x) (h₂ : x < ((1 : ℝ) : EReal)) : Ideal.fptosi 32 x = 0#32 := by
  induction x using EReal.rec with
  | bot => exact absurd h₁ (not_lt.2 bot_le)
  | top => exact absurd h₂ (not_lt.2 le_top)
  | coe r =>
    have h₁' : (-1 : ℝ) < r := EReal.coe_lt_coe_iff.1 h₁
    have h₂' : r < 1 := EReal.coe_lt_coe_iff.1 h₂
    have h0 : (if 0 ≤ r then ⌊r⌋ else ⌈r⌉) = 0 := by
      split
      · exact Int.floor_eq_zero_iff.2 ⟨by assumption, h₂'⟩
      · exact Int.ceil_eq_zero_iff.2 ⟨h₁', by linarith⟩
    unfold Ideal.fptosi
    rw [Ideal.toIntClamped_coe, h0]
    rfl

/-- A truth value whose bit is 1 is true. -/
theorem ofBool_one (b : Bool) (h : BitVec.ofBool b = 1#1) : b = true := by
  revert h
  cases b <;> decide

/-- The bit pattern the precondition compares from below is -1. -/
theorem minus_one : (FloatOps.ofBits .f32 0xBF800000#32 : Ideal .f32) = ((-1 : ℝ) : EReal) := by
  simp [Ideal.ofBits, Ideal.ieee, -EReal.coe_mul]
  norm_num

/-- The bit pattern the precondition compares from above is 1. -/
theorem one : (FloatOps.ofBits .f32 0x3F800000#32 : Ideal .f32) = ((1 : ℝ) : EReal) := by
  simp [Ideal.ofBits, Ideal.ieee, -EReal.coe_mul]
  norm_num

/-- A comparison "greater" that answers yes says the second number is below the first. -/
theorem above_of_compare (x y : Ideal .f32) (h : FloatOps.cmpf .ogt x y = 1#1) : (y : EReal) < x :=
  of_decide_eq_true (ofBool_one _ h)

/-- A comparison "less" that answers yes says the first number is below the second. -/
theorem below_of_compare (x y : Ideal .f32) (h : FloatOps.cmpf .olt x y = 1#1) : (x : EReal) < y :=
  of_decide_eq_true (ofBool_one _ h)

/-- A number that compares above -1 and below 1 is truncated to the integer 0. -/
theorem trunc_of_compare (x : Ideal .f32) (h : IntOp.andi (FloatOps.cmpf .ogt x (FloatOps.ofBits .f32 0xBF800000#32))
    (FloatOps.cmpf .olt x (FloatOps.ofBits .f32 0x3F800000#32)) = 1#1) : FloatOps.fptosi 32 x = 0#32 := by
  obtain ⟨h₁, h₂⟩ := IntOp.andi_eq_one.1 h
  have e₁ := above_of_compare _ _ h₁
  have e₂ := below_of_compare _ _ h₂
  rw [minus_one] at e₁
  rw [one] at e₂
  exact trunc_zero x e₁ e₂

/-- Under the precondition every visibility the reference reads is cast to 0. -/
theorem hidden_of (V0 : Valuation τ sig (Elt Ideal)) (a1 : FVec Ideal S38x16 .f32) (a2 : FVec Ideal S6x8 .f32)
    (a3 : FVec Ideal S2x4 .f32) (a4 : FVec Ideal S40x16 .f32) (a5 : FVec Ideal S16 .f32) (a6 : FVec Ideal S44x32 .f32)
    (a7 : FVec Ideal S32 .f32) (a8 : FVec Ideal S3x3x32x32 .f32) (a9 : FVec Ideal S32 .f32) (a10 : FVec Ideal S3x3x32x32 .f32)
    (a11 : FVec Ideal S32 .f32) (a12 : FVec Ideal S51x64 .f32) (a13 : FVec Ideal S64 .f32) (a14 : FVec Ideal S3232x256 .f32)
    (a15 : FVec Ideal S256 .f32)
    (h : Cert.Pre_hidden_map.fn (F := Ideal) (arg V0 main_arg0) a1 a2 a3 a4 a5 a6 a7 a8 a9 a10 a11 a12 a13 a14 a15 = fun _ => 1#1) :
    Hidden V0 := fun i y x => by
  dsimp only [Cert.Pre_hidden_map.fn] at h
  haveI : Subsingleton Cert.Pre_hidden_map.S_.Idx := ⟨fun a b => funext fun d => d.elim0⟩
  have e := Host.reduce_andi_all _ _ _ _ (fun d => d.elim0) (congrFun h _) (ix3 i y x)
  exact trunc_of_compare _ e

end Cert.RefHidden

end
-- ==== Proof.RefMap.lean ====
/- What the reference computes from its dense layer on, element by element. -/
module

public import proofs.«01_k».proof.Proof.Gen.ReferenceIdeal.Run
public import proofs.«01_k».proof.Proof.Model
public import Idealize.ShloMosaic.Lib.Pipeline.Value

@[expose] public section

noncomputable section

namespace Cert.RefMap

open Idealize.ShloMosaic Idealize.ShloMosaic.TcCoe Idealize.ShloMosaic.StableHlo Cert.ReferenceIdeal Cert.ReferenceIdeal.Gen Cert.ReferenceIdeal.Value Cert.Model

/-- A place of the padded array is an inner one exactly when both its row and its column are. -/
theorem inner_iff (i : Fin 8192) (y : Fin 11) (x : Fin 13) (c : Fin 32) :
    (∀ a : Fin 4, (![0, 1, 1, 0] : Fin 4 → Nat) a ≤ (ix4 i y x c a).val
        ∧ ((ix4 i y x c a).val - (![0, 1, 1, 0] : Fin 4 → Nat) a) % ((![0, 0, 0, 0] : Fin 4 → Nat) a + 1) = 0
        ∧ ((ix4 i y x c a).val - (![0, 1, 1, 0] : Fin 4 → Nat) a) / ((![0, 0, 0, 0] : Fin 4 → Nat) a + 1) < S8192x9x11x32.size a)
      ↔ (1 ≤ y.val ∧ y.val ≤ 9) ∧ (1 ≤ x.val ∧ x.val ≤ 11) := by
  constructor
  · intro h
    have h₁ : 1 ≤ y.val ∧ (y.val - 1) % 1 = 0 ∧ (y.val - 1) / 1 < 9 := h 1
    have h₂ : 1 ≤ x.val ∧ (x.val - 1) % 1 = 0 ∧ (x.val - 1) / 1 < 11 := h 2
    omega
  · intro h a
    match a with
    | ⟨0, _⟩ => show 0 ≤ i.val ∧ (i.val - 0) % 1 = 0 ∧ (i.val - 0) / 1 < 8192; omega
    | ⟨1, _⟩ => show 1 ≤ y.val ∧ (y.val - 1) % 1 = 0 ∧ (y.val - 1) / 1 < 9; omega
    | ⟨2, _⟩ => show 1 ≤ x.val ∧ (x.val - 1) % 1 = 0 ∧ (x.val - 1) / 1 < 11; omega
    | ⟨3, _⟩ => show 0 ≤ c.val ∧ (c.val - 0) % 1 = 0 ∧ (c.val - 0) / 1 < 32; omega

/-- The value the padding fills with is 0. -/
theorem fill_zero : (FloatOps.sitofp FTy.f32 0#32 : Ideal .f32) = (0 : EReal) := by simp [FloatOps.sitofp]

variable (V0 : Valuation τ sig (Elt Ideal))

/-- The contents of an argument, as the reference's run starts from them. -/
abbrev arg (b : Ref sig .tc) : (Proc.devRef .tc b : DevRef τ sig).ty.Contents (Elt Ideal) := V0 (Proc.devRef .tc b)

/-- What the first convolution reads: the dense layer with its GELU, inside a border of zeros. -/
theorem pad_first (i : Fin 8192) (y : Fin 11) (x : Fin 13) (c : Fin 32) :
    (res_main_v80 V0 : Vec Ideal S8192x11x13x32 .f32) (ix4 i y x c)
      = padded (fun y x c => gelu ((res_main_v66 V0 : Vec Ideal S8192x9x11x32 .f32) (ix4 i y x c))) y x c := by
  unfold res_main_v80
  pointwise
  exact padded_of_iff _ y x c _ _ _ fill_zero (inner_iff i y x c) fun _ _ _ => rfl

/-- The first convolution of the padded map, with its bias. -/
theorem conv_first (i : Fin 8192) (y : Fin 9) (x : Fin 11) (o : Fin 32) :
    (res_main_v129 V0 : Vec Ideal S8192x9x11x32 .f32) (ix4 i y x o)
      = conv (fun y x c => (res_main_v80 V0 : Vec Ideal S8192x11x13x32 .f32) (ix4 i y x c))
          (fun ky kx a o => arg V0 main_arg8 (ix4 ky kx a o)) (fun o => arg V0 main_arg9 (ix1 o)) y x o := by
  unfold res_main_v129
  pointwise
  simp only [conv, tap, Fin.val_zero, Fin.val_one, Fin.val_two, Nat.zero_add]

/-- What the second convolution reads: the first convolution with its GELU, inside a border of zeros. -/
theorem pad_second (i : Fin 8192) (y : Fin 11) (x : Fin 13) (c : Fin 32) :
    (res_main_v143 V0 : Vec Ideal S8192x11x13x32 .f32) (ix4 i y x c)
      = padded (fun y x c => gelu ((res_main_v129 V0 : Vec Ideal S8192x9x11x32 .f32) (ix4 i y x c))) y x c := by
  unfold res_main_v143
  pointwise
  exact padded_of_iff _ y x c _ _ _ fill_zero (inner_iff i y x c) fun _ _ _ => rfl

/-- The second convolution of the padded map, with its bias. -/
theorem conv_second (i : Fin 8192) (y : Fin 9) (x : Fin 11) (o : Fin 32) :
    (res_main_v192 V0 : Vec Ideal S8192x9x11x32 .f32) (ix4 i y x o)
      = conv (fun y x c => (res_main_v143 V0 : Vec Ideal S8192x11x13x32 .f32) (ix4 i y x c))
          (fun ky kx a o => arg V0 main_arg10 (ix4 ky kx a o)) (fun o => arg V0 main_arg11 (ix1 o)) y x o := by
  unfold res_main_v192
  pointwise
  simp only [conv, tap, Fin.val_zero, Fin.val_one, Fin.val_two, Nat.zero_add]

/-- The extra features' dense layer with its GELU. -/
theorem extra_apply (i : Fin 8192) (j : Fin 64) :
    gelu ((res_main_v210 V0 : Vec Ideal S8192x64 .f32) (ix2 i j))
      = dense (fun k => arg V0 main_arg0 (ix2 i ⟨8217 + k.val, by omega⟩))
          (fun k o => arg V0 main_arg12 (ix2 k o)) (fun o => arg V0 main_arg13 (ix1 o)) j := by
  unfold res_main_v210
  pointwise
  rfl

/-- The fused layer before its GELU: the flattened map and the extra features, each times its rows of the weights. -/
theorem fused_apply (i : Fin 8192) (n : Fin 256) :
    (res_main_v228 V0 : Vec Ideal S8192x256 .f32) (ix2 i n)
      = ((∑ k : Fin 3168, gelu ((res_main_v192 V0 : Vec Ideal S8192x9x11x32 .f32)
            (ix4 i ⟨k.val / 32 / 11, by omega⟩ ⟨k.val / 32 % 11, by omega⟩ ⟨k.val % 32, by omega⟩))
          * arg V0 main_arg14 (ix2 ⟨k.val, by omega⟩ n))
        + ∑ j : Fin 64, gelu ((res_main_v210 V0 : Vec Ideal S8192x64 .f32) (ix2 i j)) * arg V0 main_arg14 (ix2 ⟨3168 + j.val, by omega⟩ n))
        + arg V0 main_arg15 (ix1 n) := by
  have hd : ∀ k : Nat, k / 352 = k / 32 / 11 := fun k => by omega
  unfold res_main_v228
  pointwise
  simp only [hd]
  rfl

end Cert.RefMap

end
-- ==== Proof.RefValue.lean ====
/- What the reference's result holds, entry by entry, when every visibility is cast to 0. -/
module

public import proofs.«01_k».proof.Proof.RefCell
public import proofs.«01_k».proof.Proof.RefMap

@[expose] public section

noncomputable section

namespace Cert.RefValue

open Idealize.ShloMosaic Idealize.ShloMosaic.TcCoe Idealize.ShloMosaic.StableHlo Cert.ReferenceIdeal Cert.ReferenceIdeal.Gen Cert.ReferenceIdeal.Value Cert.Model
open Cert.RefCell (Hidden dense_pre)
open Cert.RefMap

variable (V0 : Valuation τ sig (Elt Ideal))

/-- The reference's result: its last layer with GELU, written as the reference writes GELU. -/
def final : FVec Ideal S8192x256 .f32 :=
  mulf (res_main_v228 V0) (mulf (broadcastInDim S8192x256 ![] bcast_S_S8192x256 (constant S_ .f32 0x3F000000#32))
    (addf (broadcastInDim S8192x256 ![] bcast_S_S8192x256 (constant S_ .f32 0x3F800000#32))
      (Host.tanh (mulf (broadcastInDim S8192x256 ![] bcast_S_S8192x256 (constant S_ .f32 0x3F4C422A#32))
        (addf (res_main_v228 V0) (mulf (broadcastInDim S8192x256 ![] bcast_S_S8192x256 (constant S_ .f32 0x3D372713#32))
          (mulf (mulf (res_main_v228 V0) (res_main_v228 V0)) (res_main_v228 V0))))))))

/-- Each entry of the result is the GELU of that entry of the last layer. -/
theorem final_gelu (i : Fin 8192) (n : Fin 256) :
    final V0 (ix2 i n) = gelu ((res_main_v228 V0 : Vec Ideal S8192x256 .f32) (ix2 i n)) := by
  unfold final
  pointwise
  rfl

/-- The dense layer gives every cell of every observation the same 32 numbers. -/
theorem dense_apply (hv : Hidden V0) (i : Fin 8192) (y : Fin 9) (x : Fin 11) (o : Fin 32) :
    gelu ((res_main_v66 V0 : Vec Ideal S8192x9x11x32 .f32) (ix4 i y x o))
      = dense (cell (fun k => arg V0 main_arg1 (ix2 0 k)) (fun k => arg V0 main_arg2 (ix2 0 k))
          (fun k => arg V0 main_arg5 (ix1 k)) (fun k => arg V0 main_arg3 (ix2 0 k)))
          (fun k o => arg V0 main_arg6 (ix2 k o)) (fun o => arg V0 main_arg7 (ix1 o)) o :=
  congrArg gelu (dense_pre V0 hv i y x o)

/-- The two convolutions with their GELUs, of that constant map. -/
theorem spatial_apply (hv : Hidden V0) (i : Fin 8192) (y : Fin 9) (x : Fin 11) (o : Fin 32) :
    gelu ((res_main_v192 V0 : Vec Ideal S8192x9x11x32 .f32) (ix4 i y x o))
      = spatial (dense (cell (fun k => arg V0 main_arg1 (ix2 0 k)) (fun k => arg V0 main_arg2 (ix2 0 k))
            (fun k => arg V0 main_arg5 (ix1 k)) (fun k => arg V0 main_arg3 (ix2 0 k)))
          (fun k o => arg V0 main_arg6 (ix2 k o)) (fun o => arg V0 main_arg7 (ix1 o)))
        (fun ky kx a o => arg V0 main_arg8 (ix4 ky kx a o)) (fun o => arg V0 main_arg9 (ix1 o))
        (fun ky kx a o => arg V0 main_arg10 (ix4 ky kx a o)) (fun o => arg V0 main_arg11 (ix1 o)) y x o := by
  unfold spatial
  rw [conv_second]
  simp only [pad_second, conv_first, pad_first, dense_apply V0 hv]

/-- Every entry of the reference's result is the network's result for that observation. -/
theorem final_apply (hv : Hidden V0) (i : Fin 8192) (n : Fin 256) :
    final V0 (ix2 i n) = result (fun k => arg V0 main_arg0 (ix2 i ⟨8217 + k.val, by omega⟩))
      (fun k => arg V0 main_arg1 (ix2 0 k)) (fun k => arg V0 main_arg2 (ix2 0 k)) (fun k => arg V0 main_arg3 (ix2 0 k))
      (fun k => arg V0 main_arg5 (ix1 k)) (fun k o => arg V0 main_arg6 (ix2 k o)) (fun o => arg V0 main_arg7 (ix1 o))
      (fun ky kx a o => arg V0 main_arg8 (ix4 ky kx a o)) (fun o => arg V0 main_arg9 (ix1 o))
      (fun ky kx a o => arg V0 main_arg10 (ix4 ky kx a o)) (fun o => arg V0 main_arg11 (ix1 o))
      (fun k o => arg V0 main_arg12 (ix2 k o)) (fun o => arg V0 main_arg13 (ix1 o))
      (fun k n => arg V0 main_arg14 (ix2 k n)) (fun n => arg V0 main_arg15 (ix1 n)) n := by
  rw [final_gelu, fused_apply]
  unfold result
  refine congrArg gelu ?_
  simp only [spatial_apply V0 hv, extra_apply]
  exact (congrArg (· + _) (add_comm _ _)).trans (add_assoc _ _ _)

end Cert.RefValue

end
-- ==== Proof.lean ====
/- The claims about the kernel, its idealized form and the reference, and their conjunction `Cert.Proof.claim`. What the
   programs compute is proved in Proof/KernelValue.lean and Proof/RefValue.lean, and what the precondition gives in
   Proof/RefHidden.lean; here the two results are set equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_hidden_map
public import proofs.«01_k».proof.Proof.Gen.KernelIdeal.Value
public import proofs.«01_k».proof.Proof.Gen.ReferenceIdeal.Run
public import proofs.«01_k».proof.Proof.KernelValue
public import proofs.«01_k».proof.Proof.RefHidden
public import proofs.«01_k».proof.Proof.RefValue
public import Idealize.ShloMosaic.Adequacy
public import Idealize.ShloMosaic.Init

@[expose] public section

noncomputable section

namespace Cert.Proof

open Idealize.ShloMosaic Idealize.SL.Sem Idealize.ShloMosaic.StableHlo

/-- The kernel as printed runs to the end and leaves its arguments unchanged. -/
theorem frame_kernel : Cert.quiescent_Kernel := fun m g _ => Cert.Kernel.Gen.frame m g

/-- So does the idealized kernel. -/
theorem frame_ideal : Cert.quiescent_KernelIdeal := fun m g _ => Cert.KernelIdeal.Gen.frame m g

/-- And so does it under the precondition. -/
theorem frame_ideal_hidden : Cert.quiescent_KernelIdeal_pre_hidden_map := fun m g _ => Cert.KernelIdeal.Gen.frame m g

/-- The idealized reference runs to the end and leaves its arguments unchanged. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- And so does it under the precondition. -/
theorem frame_reference_hidden : Cert.quiescent_ReferenceIdeal_pre_hidden_map := fun m g _ => frame_reference m g trivial

/-- When every visibility is cast to 0 and the arguments agree, the reference's result and the kernel's are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hv : Cert.RefCell.Hidden (launchContents m' c))
    (h0 : Cert.RefMap.arg (launchContents m' c) Cert.ReferenceIdeal.main_arg0 = Cert.KernelValue.arg m c Cert.KernelIdeal.main_arg0)
    (h1 : Cert.RefMap.arg (launchContents m' c) Cert.ReferenceIdeal.main_arg1 = Cert.KernelValue.arg m c Cert.KernelIdeal.main_arg1)
    (h2 : Cert.RefMap.arg (launchContents m' c) Cert.ReferenceIdeal.main_arg2 = Cert.KernelValue.arg m c Cert.KernelIdeal.main_arg2)
    (h3 : Cert.RefMap.arg (launchContents m' c) Cert.ReferenceIdeal.main_arg3 = Cert.KernelValue.arg m c Cert.KernelIdeal.main_arg3)
    (h5 : Cert.RefMap.arg (launchContents m' c) Cert.ReferenceIdeal.main_arg5 = Cert.KernelValue.arg m c Cert.KernelIdeal.main_arg5)
    (h6 : Cert.RefMap.arg (launchContents m' c) Cert.ReferenceIdeal.main_arg6 = Cert.KernelValue.arg m c Cert.KernelIdeal.main_arg6)
    (h7 : Cert.RefMap.arg (launchContents m' c) Cert.ReferenceIdeal.main_arg7 = Cert.KernelValue.arg m c Cert.KernelIdeal.main_arg7)
    (h8 : Cert.RefMap.arg (launchContents m' c) Cert.ReferenceIdeal.main_arg8 = Cert.KernelValue.arg m c Cert.KernelIdeal.main_arg8)
    (h9 : Cert.RefMap.arg (launchContents m' c) Cert.ReferenceIdeal.main_arg9 = Cert.KernelValue.arg m c Cert.KernelIdeal.main_arg9)
    (h10 : Cert.RefMap.arg (launchContents m' c) Cert.ReferenceIdeal.main_arg10 = Cert.KernelValue.arg m c Cert.KernelIdeal.main_arg10)
    (h11 : Cert.RefMap.arg (launchContents m' c) Cert.ReferenceIdeal.main_arg11 = Cert.KernelValue.arg m c Cert.KernelIdeal.main_arg11)
    (h12 : Cert.RefMap.arg (launchContents m' c) Cert.ReferenceIdeal.main_arg12 = Cert.KernelValue.arg m c Cert.KernelIdeal.main_arg12)
    (h13 : Cert.RefMap.arg (launchContents m' c) Cert.ReferenceIdeal.main_arg13 = Cert.KernelValue.arg m c Cert.KernelIdeal.main_arg13)
    (h14 : Cert.RefMap.arg (launchContents m' c) Cert.ReferenceIdeal.main_arg14 = Cert.KernelValue.arg m c Cert.KernelIdeal.main_arg14)
    (h15 : Cert.RefMap.arg (launchContents m' c) Cert.ReferenceIdeal.main_arg15 = Cert.KernelValue.arg m c Cert.KernelIdeal.main_arg15) :
    Cert.RefValue.final (launchContents m' c) = Cert.KernelIdeal.Value.G16 m c := by
  funext j
  obtain ⟨i, n, rfl⟩ : ∃ i n, j = ix2 i n := ⟨_, _, eq_ix2 j⟩
  rw [Cert.RefValue.final_apply _ hv, h0, h1, h2, h3, h5, h6, h7, h8, h9, h10, h11, h12, h13, h14, h15]
  exact (Cert.KernelValue.final_apply m c i n).symm

/-- Over the extended reals, from arguments that agree and satisfy the precondition, the two end with equal results. -/
theorem algebraic : Cert.algebraic_KernelIdeal_ReferenceIdeal_pre_hidden_map := by
  intro m g m' g' hpre hagree
  refine ⟨fun c => Cert.KernelIdeal.Value.G16 m c, Cert.KernelIdeal.Value.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11, h12, h13, h14, h15⟩ := hagree c
  have hp := hpre c
  rw [← h0] at hp
  exact result_eq m m' c (Cert.RefHidden.hidden_of _ _ _ _ _ _ _ _ _ _ _ _ _ _ _ _ hp) h0 h1 h2 h3 h5 h6 h7 h8 h9 h10 h11 h12 h13 h14 h15

/-- Every claim, with the witnesses of the facts the programs state. -/
theorem claim : Cert.Claim := ⟨Cert.Kernel.Gen.facts, Cert.KernelIdeal.Gen.facts, Cert.ReferenceIdeal.Gen.facts, Cert.Pre_hidden_map.Gen.facts,
  frame_kernel, frame_ideal, frame_ideal_hidden, frame_reference, frame_reference_hidden, trivial, algebraic⟩

end Cert.Proof

end
